-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_xy_finite [hPre_xy_finite : Cert.Pre_xy_finite.Facts] (m : (ℓ : Loc Cert.KernelIdeal.nD Cert.KernelIdeal.τ Cert.KernelIdeal.sig) → Buf (Elt Ideal) ℓ) : Prop :=
  ∀ c : Dev Cert.KernelIdeal.nD,
    (Cert.Pre_xy_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_xy_finite [hPre_xy_finite : Cert.Pre_xy_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_xy_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_xy_finite [hKernelIdeal : Cert.KernelIdeal.Facts] [hPre_xy_finite : Cert.Pre_xy_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_xy_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_xy_finite [hReferenceIdeal : Cert.ReferenceIdeal.Facts] [hPre_xy_finite : Cert.Pre_xy_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_xy_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_xy_finite [hKernelIdeal : Cert.KernelIdeal.Facts] [hReferenceIdeal : Cert.ReferenceIdeal.Facts] [hPre_xy_finite : Cert.Pre_xy_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_xy_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v208)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v208) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v211) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_xy_finite : Cert.Pre_xy_finite.Facts),
    quiescent_Kernel (hKernel := hKernel)
    ∧ quiescent_KernelIdeal (hKernelIdeal := hKernelIdeal)
    ∧ quiescent_KernelIdeal_pre_xy_finite (hKernelIdeal := hKernelIdeal) (hPre_xy_finite := hPre_xy_finite)
    ∧ quiescent_ReferenceIdeal (hReferenceIdeal := hReferenceIdeal)
    ∧ quiescent_ReferenceIdeal_pre_xy_finite (hReferenceIdeal := hReferenceIdeal) (hPre_xy_finite := hPre_xy_finite)
    ∧ preserves_Kernel_KernelIdeal
    ∧ algebraic_KernelIdeal_ReferenceIdeal_pre_xy_finite (hKernelIdeal := hKernelIdeal) (hReferenceIdeal := hReferenceIdeal) (hPre_xy_finite := hPre_xy_finite)
-- ==== Pre_xy_finite.lean ====
abbrev S2x2000x3 : Shape := ⟨3, ![2, 2000, 3]⟩
abbrev S2x4000x3 : Shape := ⟨3, ![2, 4000, 3]⟩
abbrev S2x4000x3x3 : Shape := ⟨4, ![2, 4000, 3, 3]⟩
abbrev S2x2000x2 : Shape := ⟨3, ![2, 2000, 2]⟩
abbrev S_ : Shape := ⟨0, ![]⟩

class Facts : Prop where
  slices_S2x2000x3_S2x2000x2_0_0_0 : S2x2000x3.Slices ![0, 0, 0] S2x2000x2
  bcast_S_S2x2000x2 : S_.BroadcastsInDim S2x2000x2 (![] : Fin 0 → Fin S2x2000x2.rank)

variable [Facts]

def fn {F : FTy → Type} [FloatOps F] (main_arg0 : FVec F S2x2000x3 .f32) (main_arg1 : IVec S2x4000x3 32) (main_arg2 : FVec F S2x4000x3x3 .f32) : IVec S2x2000x2 1 :=
  let main_v0 : FVec F S2x2000x2 .f32 := (extractStridedSlice S2x2000x2 ![0, 0, 0] · slices_S2x2000x3_S2x2000x2_0_0_0) main_arg0
  let main_v1 : FVec F S2x2000x2 .f32 := Host.absf main_v0
  let main_cst : FVec F S_ .f32 := constant S_ .f32 0x7F800000#32
  let main_v2 : FVec F S2x2000x2 .f32 := broadcastInDim S2x2000x2 ![] bcast_S_S2x2000x2 main_cst
  let main_v3 : IVec S2x2000x2 1 := cmpf .olt main_v1 main_v2
  main_v3
-- ==== Kernel.lean ====
abbrev S2x2000x3 : Shape := ⟨3, ![2, 2000, 3]⟩
abbrev S2x4000x3 : Shape := ⟨3, ![2, 4000, 3]⟩
abbrev S2x4000x3x3 : Shape := ⟨4, ![2, 4000, 3, 3]⟩
abbrev S2x2000x1 : Shape := ⟨3, ![2, 2000, 1]⟩
abbrev S2x2000 : Shape := ⟨2, ![2, 2000]⟩
abbrev S_ : Shape := ⟨0, ![]⟩
abbrev S2x4000x3x1 : Shape := ⟨4, ![2, 4000, 3, 1]⟩
abbrev S2x4000x1x1 : Shape := ⟨4, ![2, 4000, 1, 1]⟩
abbrev S2x4000 : Shape := ⟨2, ![2, 4000]⟩
abbrev S2x1x4000 : Shape := ⟨3, ![2, 1, 4000]⟩
abbrev S2x9x4000 : Shape := ⟨3, ![2, 9, 4000]⟩
abbrev S2x9x96 : Shape := ⟨3, ![2, 9, 96]⟩
abbrev S1 : Shape := ⟨1, ![1]⟩
abbrev S2x96 : Shape := ⟨2, ![2, 96]⟩
abbrev S2x9x4096 : Shape := ⟨3, ![2, 9, 4096]⟩
abbrev S2x128x128 : Shape := ⟨3, ![2, 128, 128]⟩
abbrev S1x9x512 : Shape := ⟨3, ![1, 9, 512]⟩
abbrev S1x8x128 : Shape := ⟨3, ![1, 8, 128]⟩
abbrev S8x128 : Shape := ⟨2, ![8, 128]⟩
abbrev S1x1x1 : Shape := ⟨3, ![1, 1, 1]⟩
abbrev S128 : Shape := ⟨1, ![128]⟩
abbrev S128x128 : Shape := ⟨2, ![128, 128]⟩
abbrev S16384 : Shape := ⟨1, ![16384]⟩
abbrev S1x16384 : Shape := ⟨2, ![1, 16384]⟩
abbrev S2x16384 : Shape := ⟨2, ![2, 16384]⟩
abbrev S2x16384x1 : Shape := ⟨3, ![2, 16384, 1]⟩
abbrev S2x9x16384 : Shape := ⟨3, ![2, 9, 16384]⟩
abbrev S2x1x16384 : Shape := ⟨3, ![2, 1, 16384]⟩
abbrev S2x4000x9 : Shape := ⟨3, ![2, 4000, 9]⟩
abbrev S2x16384x9 : Shape := ⟨3, ![2, 16384, 9]⟩
abbrev S2x16384x3x3 : Shape := ⟨4, ![2, 16384, 3, 3]⟩
abbrev S2x16384x1x3 : Shape := ⟨4, ![2, 16384, 1, 3]⟩
abbrev S2x16384x3 : Shape := ⟨3, ![2, 16384, 3]⟩
abbrev S2x16384x4 : Shape := ⟨3, ![2, 16384, 4]⟩
abbrev S2x128x128x4 : Shape := ⟨4, ![2, 128, 128, 4]⟩
abbrev S2x4x128x128 : Shape := ⟨4, ![2, 4, 128, 128]⟩

abbrev nBuf : Space → Nat
  | .hbm => 259
  | .vmem => 4
  | .smem => 2
  | _ => 0

abbrev hbmTy0_0 (i : Nat) : BufTy := match i % 128 with
  | 0 => ⟨S2x2000x3, .f32⟩
  | 1 => ⟨S2x4000x3, .i32⟩
  | 2 => ⟨S2x4000x3x3, .f32⟩
  | 3 => ⟨S2x2000x1, .f32⟩
  | 4 => ⟨S2x2000, .f32⟩
  | 5 => ⟨S2x2000, .f32⟩
  | 6 => ⟨S2x2000x1, .f32⟩
  | 7 => ⟨S2x2000, .f32⟩
  | 8 => ⟨S2x2000, .f32⟩
  | 9 => ⟨S2x2000x1, .f32⟩
  | 10 => ⟨S2x2000, .f32⟩
  | 11 => ⟨S_, .f32⟩
  | 12 => ⟨S2x2000, .f32⟩
  | 13 => ⟨S2x2000, .f32⟩
  | 14 => ⟨S_, .f32⟩
  | 15 => ⟨S2x2000, .f32⟩
  | 16 => ⟨S2x2000, .f32⟩
  | 17 => ⟨S_, .f32⟩
  | 18 => ⟨S2x2000, .f32⟩
  | 19 => ⟨S2x2000, .f32⟩
  | 20 => ⟨S_, .f32⟩
  | 21 => ⟨S2x2000, .f32⟩
  | 22 => ⟨S2x2000, .f32⟩
  | 23 => ⟨S_, .f32⟩
  | 24 => ⟨S2x2000, .f32⟩
  | 25 => ⟨S2x2000, .f32⟩
  | 26 => ⟨S_, .f32⟩
  | 27 => ⟨S2x2000, .f32⟩
  | 28 => ⟨S2x2000, .f32⟩
  | 29 => ⟨S_, .f32⟩
  | 30 => ⟨S2x2000, .f32⟩
  | 31 => ⟨S2x2000, .f32⟩
  | 32 => ⟨S_, .f32⟩
  | 33 => ⟨S2x2000, .f32⟩
  | 34 => ⟨S2x2000, .f32⟩
  | 35 => ⟨S_, .f32⟩
  | 36 => ⟨S2x2000, .f32⟩
  | 37 => ⟨S2x2000, .f32⟩
  | 38 => ⟨S_, .f32⟩
  | 39 => ⟨S2x2000, .f32⟩
  | 40 => ⟨S2x2000, .f32⟩
  | 41 => ⟨S_, .f32⟩
  | 42 => ⟨S2x2000, .f32⟩
  | 43 => ⟨S2x2000, .f32⟩
  | 44 => ⟨S_, .f32⟩
  | 45 => ⟨S2x2000, .f32⟩
  | 46 => ⟨S2x2000, .f32⟩
  | 47 => ⟨S_, .f32⟩
  | 48 => ⟨S2x2000, .f32⟩
  | 49 => ⟨S2x2000, .f32⟩
  | 50 => ⟨S_, .f32⟩
  | 51 => ⟨S2x2000, .f32⟩
  | 52 => ⟨S2x2000, .f32⟩
  | 53 => ⟨S_, .f32⟩
  | 54 => ⟨S2x2000, .f32⟩
  | 55 => ⟨S2x2000, .f32⟩
  | 56 => ⟨S_, .f32⟩
  | 57 => ⟨S2x2000, .f32⟩
  | 58 => ⟨S2x2000, .f32⟩
  | 59 => ⟨S_, .f32⟩
  | 60 => ⟨S2x2000, .f32⟩
  | 61 => ⟨S2x2000, .f32⟩
  | 62 => ⟨S_, .f32⟩
  | 63 => ⟨S2x2000, .f32⟩
  | 64 => ⟨S2x2000, .f32⟩
  | 65 => ⟨S_, .f32⟩
  | 66 => ⟨S2x2000, .f32⟩
  | 67 => ⟨S2x2000, .f32⟩
  | 68 => ⟨S_, .f32⟩
  | 69 => ⟨S2x2000, .f32⟩
  | 70 => ⟨S2x2000, .f32⟩
  | 71 => ⟨S_, .f32⟩
  | 72 => ⟨S2x2000, .f32⟩
  | 73 => ⟨S2x2000, .f32⟩
  | 74 => ⟨S_, .f32⟩
  | 75 => ⟨S2x2000, .f32⟩
  | 76 => ⟨S2x2000, .f32⟩
  | 77 => ⟨S_, .f32⟩
  | 78 => ⟨S2x2000, .f32⟩
  | 79 => ⟨S2x2000, .f32⟩
  | 80 => ⟨S_, .f32⟩
  | 81 => ⟨S2x2000, .f32⟩
  | 82 => ⟨S2x2000, .f32⟩
  | 83 => ⟨S2x2000x1, .f32⟩
  | 84 => ⟨S2x2000x1, .f32⟩
  | 85 => ⟨S2x2000x1, .f32⟩
  | 86 => ⟨S2x2000x3, .f32⟩
  | 87 => ⟨S_, .i32⟩
  | 88 => ⟨S2x4000x3, .i32⟩
  | 89 => ⟨S2x4000x3, .i1⟩
  | 90 => ⟨S_, .i32⟩
  | 91 => ⟨S2x4000x3, .i32⟩
  | 92 => ⟨S2x4000x3, .i32⟩
  | 93 => ⟨S2x4000x3, .i32⟩
  | 94 => ⟨S2x4000x3x1, .i32⟩
  | 95 => ⟨S2x4000x3x3, .f32⟩
  | 96 => ⟨S2x4000x1x1, .f32⟩
  | 97 => ⟨S2x4000, .f32⟩
  | 98 => ⟨S2x4000x1x1, .f32⟩
  | 99 => ⟨S2x4000, .f32⟩
  | 100 => ⟨S2x4000x1x1, .f32⟩
  | 101 => ⟨S2x4000, .f32⟩
  | 102 => ⟨S2x4000x1x1, .f32⟩
  | 103 => ⟨S2x4000, .f32⟩
  | 104 => ⟨S2x4000x1x1, .f32⟩
  | 105 => ⟨S2x4000, .f32⟩
  | 106 => ⟨S2x4000x1x1, .f32⟩
  | 107 => ⟨S2x4000, .f32⟩
  | 108 => ⟨S2x4000x1x1, .f32⟩
  | 109 => ⟨S2x4000, .f32⟩
  | 110 => ⟨S2x4000x1x1, .f32⟩
  | 111 => ⟨S2x4000, .f32⟩
  | 112 => ⟨S2x4000x1x1, .f32⟩
  | 113 => ⟨S2x4000, .f32⟩
  | 114 => ⟨S2x4000, .f32⟩
  | 115 => ⟨S2x4000, .f32⟩
  | 116 => ⟨S2x4000, .f32⟩
  | 117 => ⟨S2x4000, .f32⟩
  | 118 => ⟨S2x4000, .f32⟩
  | 119 => ⟨S2x4000, .f32⟩
  | 120 => ⟨S2x4000, .f32⟩
  | 121 => ⟨S2x4000, .f32⟩
  | 122 => ⟨S_, .f32⟩
  | 123 => ⟨S2x4000, .f32⟩
  | 124 => ⟨S2x4000, .i1⟩
  | 125 => ⟨S_, .f32⟩
  | 126 => ⟨S_, .f32⟩
  | 127 => ⟨S2x4000, .f32⟩
  | _ => ⟨S2x2000x3, .f32⟩

abbrev hbmTy0_1 (i : Nat) : BufTy := match i % 128 with
  | 0 => ⟨S2x4000, .f32⟩
  | 1 => ⟨S_, .f32⟩
  | 2 => ⟨S2x4000, .f32⟩
  | 3 => ⟨S2x4000, .f32⟩
  | 4 => ⟨S2x4000, .f32⟩
  | 5 => ⟨S2x4000, .f32⟩
  | 6 => ⟨S2x4000, .f32⟩
  | 7 => ⟨S2x4000, .f32⟩
  | 8 => ⟨S2x4000, .f32⟩
  | 9 => ⟨S2x4000, .f32⟩
  | 10 => ⟨S2x4000, .f32⟩
  | 11 => ⟨S2x4000, .f32⟩
  | 12 => ⟨S2x4000, .f32⟩
  | 13 => ⟨S2x4000, .f32⟩
  | 14 => ⟨S2x4000, .f32⟩
  | 15 => ⟨S2x4000, .f32⟩
  | 16 => ⟨S2x4000, .f32⟩
  | 17 => ⟨S2x4000, .f32⟩
  | 18 => ⟨S2x4000, .f32⟩
  | 19 => ⟨S2x4000, .f32⟩
  | 20 => ⟨S2x1x4000, .f32⟩
  | 21 => ⟨S2x1x4000, .f32⟩
  | 22 => ⟨S2x1x4000, .f32⟩
  | 23 => ⟨S2x1x4000, .f32⟩
  | 24 => ⟨S2x1x4000, .f32⟩
  | 25 => ⟨S2x1x4000, .f32⟩
  | 26 => ⟨S2x1x4000, .f32⟩
  | 27 => ⟨S2x1x4000, .f32⟩
  | 28 => ⟨S2x1x4000, .f32⟩
  | 29 => ⟨S2x9x4000, .f32⟩
  | 30 => ⟨S_, .f32⟩
  | 31 => ⟨S2x9x96, .f32⟩
  | 32 => ⟨S_, .i32⟩
  | 33 => ⟨S1, .i32⟩
  | 34 => ⟨S_, .f32⟩
  | 35 => ⟨S2x96, .f32⟩
  | 36 => ⟨S2x9x96, .f32⟩
  | 37 => ⟨S2x9x4096, .f32⟩
  | 38 => ⟨S2x128x128, .i32⟩
  | 39 => ⟨S128, .f32⟩
  | 40 => ⟨S128, .f32⟩
  | 41 => ⟨S128x128, .f32⟩
  | 42 => ⟨S128x128, .f32⟩
  | 43 => ⟨S16384, .f32⟩
  | 44 => ⟨S1x16384, .f32⟩
  | 45 => ⟨S16384, .f32⟩
  | 46 => ⟨S1x16384, .f32⟩
  | 47 => ⟨S2x16384, .i32⟩
  | 48 => ⟨S_, .i32⟩
  | 49 => ⟨S2x16384, .i32⟩
  | 50 => ⟨S2x16384, .i1⟩
  | 51 => ⟨S_, .i32⟩
  | 52 => ⟨S_, .i32⟩
  | 53 => ⟨S2x16384, .i32⟩
  | 54 => ⟨S2x16384, .i32⟩
  | 55 => ⟨S_, .i32⟩
  | 56 => ⟨S2x16384, .i32⟩
  | 57 => ⟨S2x16384, .i1⟩
  | 58 => ⟨S_, .i32⟩
  | 59 => ⟨S2x16384, .i32⟩
  | 60 => ⟨S2x16384, .i32⟩
  | 61 => ⟨S2x16384, .i32⟩
  | 62 => ⟨S2x16384x1, .i32⟩
  | 63 => ⟨S2x9x16384, .f32⟩
  | 64 => ⟨S2x1x16384, .f32⟩
  | 65 => ⟨S2x16384, .f32⟩
  | 66 => ⟨S2x16384, .f32⟩
  | 67 => ⟨S2x16384, .f32⟩
  | 68 => ⟨S2x1x16384, .f32⟩
  | 69 => ⟨S2x16384, .f32⟩
  | 70 => ⟨S2x16384, .f32⟩
  | 71 => ⟨S2x16384, .f32⟩
  | 72 => ⟨S2x1x16384, .f32⟩
  | 73 => ⟨S2x16384, .f32⟩
  | 74 => ⟨S2x16384, .f32⟩
  | 75 => ⟨S2x16384, .f32⟩
  | 76 => ⟨S2x1x16384, .f32⟩
  | 77 => ⟨S2x16384, .f32⟩
  | 78 => ⟨S2x16384, .f32⟩
  | 79 => ⟨S2x16384, .f32⟩
  | 80 => ⟨S2x1x16384, .f32⟩
  | 81 => ⟨S2x16384, .f32⟩
  | 82 => ⟨S2x16384, .f32⟩
  | 83 => ⟨S2x16384, .f32⟩
  | 84 => ⟨S2x1x16384, .f32⟩
  | 85 => ⟨S2x16384, .f32⟩
  | 86 => ⟨S2x16384, .f32⟩
  | 87 => ⟨S2x16384, .f32⟩
  | 88 => ⟨S_, .f32⟩
  | 89 => ⟨S2x16384, .f32⟩
  | 90 => ⟨S2x16384, .f32⟩
  | 91 => ⟨S2x16384, .f32⟩
  | 92 => ⟨S2x4000x9, .f32⟩
  | 93 => ⟨S_, .i32⟩
  | 94 => ⟨S2x16384, .i32⟩
  | 95 => ⟨S2x16384, .i1⟩
  | 96 => ⟨S_, .i32⟩
  | 97 => ⟨S2x16384, .i32⟩
  | 98 => ⟨S2x16384, .i32⟩
  | 99 => ⟨S2x16384, .i32⟩
  | 100 => ⟨S2x16384x1, .i32⟩
  | 101 => ⟨S2x16384x9, .f32⟩
  | 102 => ⟨S2x16384x3x3, .f32⟩
  | 103 => ⟨S2x16384x1, .f32⟩
  | 104 => ⟨S2x16384x1x3, .f32⟩
  | 105 => ⟨S2x16384x3, .f32⟩
  | 106 => ⟨S2x16384x3, .f32⟩
  | 107 => ⟨S2x16384x3, .f32⟩
  | 108 => ⟨S2x16384x1, .f32⟩
  | 109 => ⟨S2x16384x1x3, .f32⟩
  | 110 => ⟨S2x16384x3, .f32⟩
  | 111 => ⟨S2x16384x3, .f32⟩
  | 112 => ⟨S2x16384x3, .f32⟩
  | 113 => ⟨S2x16384x3, .f32⟩
  | 114 => ⟨S2x16384x1, .f32⟩
  | 115 => ⟨S2x16384x1x3, .f32⟩
  | 116 => ⟨S2x16384x3, .f32⟩
  | 117 => ⟨S2x16384x3, .f32⟩
  | 118 => ⟨S2x16384x3, .f32⟩
  | 119 => ⟨S2x16384x3, .f32⟩
  | 120 => ⟨S2x16384x1, .i1⟩
  | 121 => ⟨S_, .f32⟩
  | 122 => ⟨S_, .f32⟩
  | 123 => ⟨S2x16384x3, .i1⟩
  | 124 => ⟨S2x16384x3, .f32⟩
  | 125 => ⟨S2x16384x3, .f32⟩
  | 126 => ⟨S2x16384, .f32⟩
  | 127 => ⟨S2x16384x1, .f32⟩
  | _ => ⟨S2x2000x3, .f32⟩

abbrev hbmTy0_2 (i : Nat) : BufTy := match i % 128 with
  | 0 => ⟨S2x16384x4, .f32⟩
  | 1 => ⟨S2x128x128x4, .f32⟩
  | 2 => ⟨S2x4x128x128, .f32⟩
  | _ => ⟨S2x2000x3, .f32⟩

abbrev hbmTy (i : Nat) : BufTy := match i / 128 with
  | 0 => hbmTy0_0 i
  | 1 => hbmTy0_1 i
  | 2 => hbmTy0_2 i
  | _ => ⟨S2x2000x3, .f32⟩

abbrev bufTy : (tb : Table) → Fin (tcTables nBuf tb) → BufTy
  | .hbm, ⟨i, _⟩ => hbmTy i
  | .local _ .vmem, ⟨0, _⟩ => ⟨S1x8x128, .i32⟩
  | .local _ .vmem, ⟨1, _⟩ => ⟨S1x8x128, .i32⟩
  | .local _ .vmem, ⟨2, _⟩ => ⟨S8x128, .f32⟩
  | .local _ .vmem, ⟨3, _⟩ => ⟨S8x128, .i32⟩
  | .local _ .smem, ⟨0, _⟩ => ⟨S1x9x512, .f32⟩
  | .local _ .smem, ⟨1, _⟩ => ⟨S1x9x512, .f32⟩
  | _, _ => ⟨S2x2000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_cst_8 : Ref sig .tc := ⟨.hbm, 38, rfl⟩
abbrev main_v26 : Ref sig .tc := ⟨.hbm, 39, rfl⟩
abbrev main_v27 : Ref sig .tc := ⟨.hbm, 40, rfl⟩
abbrev main_cst_9 : Ref sig .tc := ⟨.hbm, 41, rfl⟩
abbrev main_v28 : Ref sig .tc := ⟨.hbm, 42, rfl⟩
abbrev main_v29 : Ref sig .tc := ⟨.hbm, 43, rfl⟩
abbrev main_cst_10 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_cst_12 : Ref sig .tc := ⟨.hbm, 50, rfl⟩
abbrev main_v34 : Ref sig .tc := ⟨.hbm, 51, rfl⟩
abbrev main_v35 : Ref sig .tc := ⟨.hbm, 52, rfl⟩
abbrev main_cst_13 : Ref sig .tc := ⟨.hbm, 53, rfl⟩
abbrev main_v36 : Ref sig .tc := ⟨.hbm, 54, rfl⟩
abbrev main_v37 : Ref sig .tc := ⟨.hbm, 55, rfl⟩
abbrev main_cst_14 : Ref sig .tc := ⟨.hbm, 56, rfl⟩
abbrev main_v38 : Ref sig .tc := ⟨.hbm, 57, rfl⟩
abbrev main_v39 : Ref sig .tc := ⟨.hbm, 58, rfl⟩
abbrev main_cst_15 : Ref sig .tc := ⟨.hbm, 59, rfl⟩
abbrev main_v40 : Ref sig .tc := ⟨.hbm, 60, rfl⟩
abbrev main_v41 : Ref sig .tc := ⟨.hbm, 61, rfl⟩
abbrev main_cst_16 : Ref sig .tc := ⟨.hbm, 62, rfl⟩
abbrev main_v42 : Ref sig .tc := ⟨.hbm, 63, rfl⟩
abbrev main_v43 : Ref sig .tc := ⟨.hbm, 64, rfl⟩
abbrev main_cst_17 : Ref sig .tc := ⟨.hbm, 65, rfl⟩
abbrev main_v44 : Ref sig .tc := ⟨.hbm, 66, rfl⟩
abbrev main_v45 : Ref sig .tc := ⟨.hbm, 67, rfl⟩
abbrev main_cst_18 : Ref sig .tc := ⟨.hbm, 68, rfl⟩
abbrev main_v46 : Ref sig .tc := ⟨.hbm, 69, rfl⟩
abbrev main_v47 : Ref sig .tc := ⟨.hbm, 70, rfl⟩
abbrev main_cst_19 : Ref sig .tc := ⟨.hbm, 71, rfl⟩
abbrev main_v48 : Ref sig .tc := ⟨.hbm, 72, rfl⟩
abbrev main_v49 : Ref sig .tc := ⟨.hbm, 73, rfl⟩
abbrev main_cst_20 : Ref sig .tc := ⟨.hbm, 74, rfl⟩
abbrev main_v50 : Ref sig .tc := ⟨.hbm, 75, rfl⟩
abbrev main_v51 : Ref sig .tc := ⟨.hbm, 76, rfl⟩
abbrev main_cst_21 : Ref sig .tc := ⟨.hbm, 77, rfl⟩
abbrev main_v52 : Ref sig .tc := ⟨.hbm, 78, rfl⟩
abbrev main_v53 : Ref sig .tc := ⟨.hbm, 79, rfl⟩
abbrev main_cst_22 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_c : Ref sig .tc := ⟨.hbm, 87, rfl⟩
abbrev main_v60 : Ref sig .tc := ⟨.hbm, 88, rfl⟩
abbrev main_v61 : Ref sig .tc := ⟨.hbm, 89, rfl⟩
abbrev main_c_23 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_cst_24 : Ref sig .tc := ⟨.hbm, 122, rfl⟩
abbrev main_v93 : Ref sig .tc := ⟨.hbm, 123, rfl⟩
abbrev main_v94 : Ref sig .tc := ⟨.hbm, 124, rfl⟩
abbrev main_cst_25 : Ref sig .tc := ⟨.hbm, 125, rfl⟩
abbrev main_call0_v0 : Ref sig .tc := ⟨.hbm, 126, rfl⟩
abbrev main_call0_v1 : Ref sig .tc := ⟨.hbm, 127, rfl⟩
abbrev main_v95 : Ref sig .tc := ⟨.hbm, 128, rfl⟩
abbrev main_cst_26 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_cst_27 : Ref sig .tc := ⟨.hbm, 158, rfl⟩
abbrev main_v124 : Ref sig .tc := ⟨.hbm, 159, rfl⟩
abbrev main_c_28 : Ref sig .tc := ⟨.hbm, 160, rfl⟩
abbrev main_v125 : Ref sig .tc := ⟨.hbm, 161, rfl⟩
abbrev main_cst_29 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_c_30 : Ref sig .tc := ⟨.hbm, 176, rfl⟩
abbrev main_v139 : Ref sig .tc := ⟨.hbm, 177, rfl⟩
abbrev main_v140 : Ref sig .tc := ⟨.hbm, 178, rfl⟩
abbrev main_c_31 : Ref sig .tc := ⟨.hbm, 179, rfl⟩
abbrev main_call1_v0 : Ref sig .tc := ⟨.hbm, 180, rfl⟩
abbrev main_call1_v1 : Ref sig .tc := ⟨.hbm, 181, rfl⟩
abbrev main_v141 : Ref sig .tc := ⟨.hbm, 182, rfl⟩
abbrev main_c_32 : Ref sig .tc := ⟨.hbm, 183, rfl⟩
abbrev main_v142 : Ref sig .tc := ⟨.hbm, 184, rfl⟩
abbrev main_v143 : Ref sig .tc := ⟨.hbm, 185, rfl⟩
abbrev main_c_33 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_cst_34 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_c_35 : Ref sig .tc := ⟨.hbm, 221, rfl⟩
abbrev main_v177 : Ref sig .tc := ⟨.hbm, 222, rfl⟩
abbrev main_v178 : Ref sig .tc := ⟨.hbm, 223, rfl⟩
abbrev main_c_36 : Ref sig .tc := ⟨.hbm, 224, rfl⟩
abbrev main_v179 : Ref sig .tc := ⟨.hbm, 225, rfl⟩
abbrev main_v180 : Ref sig .tc := ⟨.hbm, 226, rfl⟩
abbrev main_v181 : Ref sig .tc := ⟨.hbm, 227, rfl⟩
abbrev main_v182 : Ref sig .tc := ⟨.hbm, 228, rfl⟩
abbrev main_v183 : Ref sig .tc := ⟨.hbm, 229, rfl⟩
abbrev main_v184 : Ref sig .tc := ⟨.hbm, 230, rfl⟩
abbrev main_v185 : Ref sig .tc := ⟨.hbm, 231, rfl⟩
abbrev main_v186 : Ref sig .tc := ⟨.hbm, 232, rfl⟩
abbrev main_v187 : Ref sig .tc := ⟨.hbm, 233, rfl⟩
abbrev main_v188 : Ref sig .tc := ⟨.hbm, 234, rfl⟩
abbrev main_v189 : Ref sig .tc := ⟨.hbm, 235, rfl⟩
abbrev main_v190 : Ref sig .tc := ⟨.hbm, 236, rfl⟩
abbrev main_v191 : Ref sig .tc := ⟨.hbm, 237, rfl⟩
abbrev main_v192 : Ref sig .tc := ⟨.hbm, 238, rfl⟩
abbrev main_v193 : Ref sig .tc := ⟨.hbm, 239, rfl⟩
abbrev main_v194 : Ref sig .tc := ⟨.hbm, 240, rfl⟩
abbrev main_v195 : Ref sig .tc := ⟨.hbm, 241, rfl⟩
abbrev main_v196 : Ref sig .tc := ⟨.hbm, 242, rfl⟩
abbrev main_v197 : Ref sig .tc := ⟨.hbm, 243, rfl⟩
abbrev main_v198 : Ref sig .tc := ⟨.hbm, 244, rfl⟩
abbrev main_v199 : Ref sig .tc := ⟨.hbm, 245, rfl⟩
abbrev main_v200 : Ref sig .tc := ⟨.hbm, 246, rfl⟩
abbrev main_v201 : Ref sig .tc := ⟨.hbm, 247, rfl⟩
abbrev main_v202 : Ref sig .tc := ⟨.hbm, 248, rfl⟩
abbrev main_cst_37 : Ref sig .tc := ⟨.hbm, 249, rfl⟩
abbrev main_call2_v0 : Ref sig .tc := ⟨.hbm, 250, rfl⟩
abbrev main_call2_v1 : Ref sig .tc := ⟨.hbm, 251, rfl⟩
abbrev main_call2_v2 : Ref sig .tc := ⟨.hbm, 252, rfl⟩
abbrev main_v203 : Ref sig .tc := ⟨.hbm, 253, rfl⟩
abbrev main_v204 : Ref sig .tc := ⟨.hbm, 254, rfl⟩
abbrev main_v205 : Ref sig .tc := ⟨.hbm, 255, rfl⟩
abbrev main_v206 : Ref sig .tc := ⟨.hbm, 256, rfl⟩
abbrev main_v207 : Ref sig .tc := ⟨.hbm, 257, rfl⟩
abbrev main_v208 : Ref sig .tc := ⟨.hbm, 258, rfl⟩
abbrev cc0_stg1_0 : Ref sig .tc := ⟨.vmem, 0, rfl⟩
abbrev cc0_stg1_1 : Ref sig .tc := ⟨.vmem, 1, rfl⟩
abbrev cc0_scratch0 : Ref sig .tc := ⟨.vmem, 2, rfl⟩
abbrev cc0_scratch1 : Ref sig .tc := ⟨.vmem, 3, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨3, ![2, 16, 8], ![false, false, false]⟩

@[reducible] def k0_t1_loop : Scf.Loop 32 :=
  let c0_i32_4 : BitVec 32 := 0#32
  let c512_i32 : BitVec 32 := 512#32
  let v13 : BitVec 32 := Scalar.addi c0_i32_4 c512_i32
  let c1_i32 : BitVec 32 := 1#32
  ⟨c0_i32_4, v13, c1_i32⟩
def k0_off1 (k0_t1 : Fin k0_t1_loop.trips) : Fin 3 → Nat :=
  let c0_11 : Index := 0#32
  let c0_12 : Index := 0#32
  let c0_i32_4 : BitVec 32 := 0#32
  let c1_i32 : BitVec 32 := 1#32
  let arg7 : BitVec 32 := Scf.iv c0_i32_4 c1_i32 k0_t1
  let v24 : Index := Scalar.indexCast arg7
  ![0, 0, v24.toNat]
def k0_off2 (k0_t1 : Fin k0_t1_loop.trips) : Fin 3 → Nat :=
  let c0_13 : Index := 0#32
  let c1 : Index := 1#32
  let c0_i32_4 : BitVec 32 := 0#32
  let c1_i32 : BitVec 32 := 1#32
  let arg7 : BitVec 32 := Scf.iv c0_i32_4 c1_i32 k0_t1
  let v26 : Index := Scalar.indexCast arg7
  ![0, 1, v26.toNat]
def k0_off3 (k0_t1 : Fin k0_t1_loop.trips) : Fin 3 → Nat :=
  let c0_14 : Index := 0#32
  let c2 : Index := 2#32
  let c0_i32_4 : BitVec 32 := 0#32
  let c1_i32 : BitVec 32 := 1#32
  let arg7 : BitVec 32 := Scf.iv c0_i32_4 c1_i32 k0_t1
  let v28 : Index := Scalar.indexCast arg7
  ![0, 2, v28.toNat]
def k0_off4 (k0_t1 : Fin k0_t1_loop.trips) : Fin 3 → Nat :=
  let c0_15 : Index := 0#32
  let c3 : Index := 3#32
  let c0_i32_4 : BitVec 32 := 0#32
  let c1_i32 : BitVec 32 := 1#32
  let arg7 : BitVec 32 := Scf.iv c0_i32_4 c1_i32 k0_t1
  let v30 : Index := Scalar.indexCast arg7
  ![0, 3, v30.toNat]
def k0_off5 (k0_t1 : Fin k0_t1_loop.trips) : Fin 3 → Nat :=
  let c0_16 : Index := 0#32
  let c4 : Index := 4#32
  let c0_i32_4 : BitVec 32 := 0#32
  let c1_i32 : BitVec 32 := 1#32
  let arg7 : BitVec 32 := Scf.iv c0_i32_4 c1_i32 k0_t1
  let v32 : Index := Scalar.indexCast arg7
  ![0, 4, v32.toNat]
def k0_off6 (k0_t1 : Fin k0_t1_loop.trips) : Fin 3 → Nat :=
  let c0_17 : Index := 0#32
  let c5 : Index := 5#32
  let c0_i32_4 : BitVec 32 := 0#32
  let c1_i32 : BitVec 32 := 1#32
  let arg7 : BitVec 32 := Scf.iv c0_i32_4 c1_i32 k0_t1
  let v34 : Index := Scalar.indexCast arg7
  ![0, 5, v34.toNat]
def k0_off7 (k0_t1 : Fin k0_t1_loop.trips) : Fin 3 → Nat :=
  let c0_18 : Index := 0#32
  let c6 : Index := 6#32
  let c0_i32_4 : BitVec 32 := 0#32
  let c1_i32 : BitVec 32 := 1#32
  let arg7 : BitVec 32 := Scf.iv c0_i32_4 c1_i32 k0_t1
  let v36 : Index := Scalar.indexCast arg7
  ![0, 6, v36.toNat]
def k0_off8 (k0_t1 : Fin k0_t1_loop.trips) : Fin 3 → Nat :=
  let c0_19 : Index := 0#32
  let c7 : Index := 7#32
  let c0_i32_4 : BitVec 32 := 0#32
  let c1_i32 : BitVec 32 := 1#32
  let arg7 : BitVec 32 := Scf.iv c0_i32_4 c1_i32 k0_t1
  let v38 : Index := Scalar.indexCast arg7
  ![0, 7, v38.toNat]
def k0_off9 (k0_t1 : Fin k0_t1_loop.trips) : Fin 3 → Nat :=
  let c0_20 : Index := 0#32
  let c8 : Index := 8#32
  let c0_i32_4 : BitVec 32 := 0#32
  let c1_i32 : BitVec 32 := 1#32
  let arg7 : BitVec 32 := Scf.iv c0_i32_4 c1_i32 k0_t1
  let v40 : Index := Scalar.indexCast arg7
  ![0, 8, v40.toNat]
def k0_cond2 (i : grid0.Coords) : BitVec 1 :=
  let arg2 : BitVec 32 := BitVec.ofNat 32 (i 2).val
  let c7_i32 : BitVec 32 := 7#32
  let v21 : BitVec 1 := Scalar.cmpi .eq arg2 c7_i32
  let v22 : BitVec 32 := Scalar.extui v21
  let c0_i32_10 : BitVec 32 := 0#32
  let v23 : BitVec 1 := Scalar.cmpi .ne v22 c0_i32_10
  v23

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .smem S1x9x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x8x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]
-- ==== ReferenceIdeal.lean ====
abbrev S2x2000x3 : Shape := ⟨3, ![2, 2000, 3]⟩
abbrev S2x4000x3 : Shape := ⟨3, ![2, 4000, 3]⟩
abbrev S2x4000x3x3 : Shape := ⟨4, ![2, 4000, 3, 3]⟩
abbrev S2x2000x1 : Shape := ⟨3, ![2, 2000, 1]⟩
abbrev S2x2000 : Shape := ⟨2, ![2, 2000]⟩
abbrev S_ : Shape := ⟨0, ![]⟩
abbrev S2x4000x3x1 : Shape := ⟨4, ![2, 4000, 3, 1]⟩
abbrev S128 : Shape := ⟨1, ![128]⟩
abbrev S128x128 : Shape := ⟨2, ![128, 128]⟩
abbrev S16384 : Shape := ⟨1, ![16384]⟩
abbrev S1x1x16384 : Shape := ⟨3, ![1, 1, 16384]⟩
abbrev S2x4000x1x1 : Shape := ⟨4, ![2, 4000, 1, 1]⟩
abbrev S2x4000x1 : Shape := ⟨3, ![2, 4000, 1]⟩
abbrev S2x4000x16384 : Shape := ⟨3, ![2, 4000, 16384]⟩
abbrev S2x16384 : Shape := ⟨2, ![2, 16384]⟩
abbrev S2x1x16384 : Shape := ⟨3, ![2, 1, 16384]⟩
abbrev S2x1x16384x1 : Shape := ⟨4, ![2, 1, 16384, 1]⟩
abbrev S1 : Shape := ⟨1, ![1]⟩
abbrev S1x1x1x1 : Shape := ⟨4, ![1, 1, 1, 1]⟩
abbrev S2x16384x1 : Shape := ⟨3, ![2, 16384, 1]⟩
abbrev S2x16384x3 : Shape := ⟨3, ![2, 16384, 3]⟩
abbrev S2x128x128 : Shape := ⟨3, ![2, 128, 128]⟩
abbrev S2x128x128x3 : Shape := ⟨4, ![2, 128, 128, 3]⟩
abbrev S2 : Shape := ⟨1, ![2]⟩
abbrev S2x1x1 : Shape := ⟨3, ![2, 1, 1]⟩
abbrev S8000x3x3 : Shape := ⟨3, ![8000, 3, 3]⟩
abbrev S32768 : Shape := ⟨1, ![32768]⟩
abbrev S32768x1 : Shape := ⟨2, ![32768, 1]⟩
abbrev S1x1 : Shape := ⟨2, ![1, 1]⟩
abbrev S32768x3x3 : Shape := ⟨3, ![32768, 3, 3]⟩
abbrev S2x128x128x3x3 : Shape := ⟨5, ![2, 128, 128, 3, 3]⟩
abbrev S2x128x128x3x1 : Shape := ⟨5, ![2, 128, 128, 3, 1]⟩
abbrev S2x128x128x1 : Shape := ⟨4, ![2, 128, 128, 1]⟩
abbrev S2x3x128x128 : Shape := ⟨4, ![2, 3, 128, 128]⟩
abbrev S2x1x128x128 : Shape := ⟨4, ![2, 1, 128, 128]⟩
abbrev S2x4x128x128 : Shape := ⟨4, ![2, 4, 128, 128]⟩

abbrev nBuf : Space → Nat
  | .hbm => 386
  | .vmem => 0
  | .smem => 0
  | _ => 0

abbrev hbmTy0_0 (i : Nat) : BufTy := match i % 128 with
  | 0 => ⟨S2x2000x3, .f32⟩
  | 1 => ⟨S2x4000x3, .i32⟩
  | 2 => ⟨S2x4000x3x3, .f32⟩
  | 3 => ⟨S2x2000x1, .f32⟩
  | 4 => ⟨S2x2000, .f32⟩
  | 5 => ⟨S2x2000, .f32⟩
  | 6 => ⟨S2x2000x1, .f32⟩
  | 7 => ⟨S2x2000, .f32⟩
  | 8 => ⟨S2x2000, .f32⟩
  | 9 => ⟨S2x2000x1, .f32⟩
  | 10 => ⟨S2x2000, .f32⟩
  | 11 => ⟨S_, .f32⟩
  | 12 => ⟨S2x2000, .f32⟩
  | 13 => ⟨S2x2000, .f32⟩
  | 14 => ⟨S_, .f32⟩
  | 15 => ⟨S2x2000, .f32⟩
  | 16 => ⟨S2x2000, .f32⟩
  | 17 => ⟨S_, .f32⟩
  | 18 => ⟨S2x2000, .f32⟩
  | 19 => ⟨S2x2000, .f32⟩
  | 20 => ⟨S_, .f32⟩
  | 21 => ⟨S2x2000, .f32⟩
  | 22 => ⟨S2x2000, .f32⟩
  | 23 => ⟨S_, .f32⟩
  | 24 => ⟨S2x2000, .f32⟩
  | 25 => ⟨S2x2000, .f32⟩
  | 26 => ⟨S_, .f32⟩
  | 27 => ⟨S2x2000, .f32⟩
  | 28 => ⟨S2x2000, .f32⟩
  | 29 => ⟨S_, .f32⟩
  | 30 => ⟨S2x2000, .f32⟩
  | 31 => ⟨S2x2000, .f32⟩
  | 32 => ⟨S_, .f32⟩
  | 33 => ⟨S2x2000, .f32⟩
  | 34 => ⟨S2x2000, .f32⟩
  | 35 => ⟨S_, .f32⟩
  | 36 => ⟨S2x2000, .f32⟩
  | 37 => ⟨S2x2000, .f32⟩
  | 38 => ⟨S_, .f32⟩
  | 39 => ⟨S2x2000, .f32⟩
  | 40 => ⟨S2x2000, .f32⟩
  | 41 => ⟨S_, .f32⟩
  | 42 => ⟨S2x2000, .f32⟩
  | 43 => ⟨S2x2000, .f32⟩
  | 44 => ⟨S_, .f32⟩
  | 45 => ⟨S2x2000, .f32⟩
  | 46 => ⟨S2x2000, .f32⟩
  | 47 => ⟨S_, .f32⟩
  | 48 => ⟨S2x2000, .f32⟩
  | 49 => ⟨S2x2000, .f32⟩
  | 50 => ⟨S_, .f32⟩
  | 51 => ⟨S2x2000, .f32⟩
  | 52 => ⟨S2x2000, .f32⟩
  | 53 => ⟨S_, .f32⟩
  | 54 => ⟨S2x2000, .f32⟩
  | 55 => ⟨S2x2000, .f32⟩
  | 56 => ⟨S_, .f32⟩
  | 57 => ⟨S2x2000, .f32⟩
  | 58 => ⟨S2x2000, .f32⟩
  | 59 => ⟨S_, .f32⟩
  | 60 => ⟨S2x2000, .f32⟩
  | 61 => ⟨S2x2000, .f32⟩
  | 62 => ⟨S_, .f32⟩
  | 63 => ⟨S2x2000, .f32⟩
  | 64 => ⟨S2x2000, .f32⟩
  | 65 => ⟨S_, .f32⟩
  | 66 => ⟨S2x2000, .f32⟩
  | 67 => ⟨S2x2000, .f32⟩
  | 68 => ⟨S_, .f32⟩
  | 69 => ⟨S2x2000, .f32⟩
  | 70 => ⟨S2x2000, .f32⟩
  | 71 => ⟨S_, .f32⟩
  | 72 => ⟨S2x2000, .f32⟩
  | 73 => ⟨S2x2000, .f32⟩
  | 74 => ⟨S_, .f32⟩
  | 75 => ⟨S2x2000, .f32⟩
  | 76 => ⟨S2x2000, .f32⟩
  | 77 => ⟨S_, .f32⟩
  | 78 => ⟨S2x2000, .f32⟩
  | 79 => ⟨S2x2000, .f32⟩
  | 80 => ⟨S_, .f32⟩
  | 81 => ⟨S2x2000, .f32⟩
  | 82 => ⟨S2x2000, .f32⟩
  | 83 => ⟨S2x2000x1, .f32⟩
  | 84 => ⟨S2x2000x1, .f32⟩
  | 85 => ⟨S2x2000x1, .f32⟩
  | 86 => ⟨S2x2000x3, .f32⟩
  | 87 => ⟨S_, .i32⟩
  | 88 => ⟨S2x4000x3, .i32⟩
  | 89 => ⟨S2x4000x3, .i1⟩
  | 90 => ⟨S_, .i32⟩
  | 91 => ⟨S2x4000x3, .i32⟩
  | 92 => ⟨S2x4000x3, .i32⟩
  | 93 => ⟨S2x4000x3, .i32⟩
  | 94 => ⟨S2x4000x3x1, .i32⟩
  | 95 => ⟨S2x4000x3x3, .f32⟩
  | 96 => ⟨S128, .f32⟩
  | 97 => ⟨S128, .f32⟩
  | 98 => ⟨S128x128, .f32⟩
  | 99 => ⟨S128x128, .f32⟩
  | 100 => ⟨S16384, .f32⟩
  | 101 => ⟨S1x1x16384, .f32⟩
  | 102 => ⟨S16384, .f32⟩
  | 103 => ⟨S1x1x16384, .f32⟩
  | 104 => ⟨S2x4000x1x1, .f32⟩
  | 105 => ⟨S2x4000x1, .f32⟩
  | 106 => ⟨S2x4000x1x1, .f32⟩
  | 107 => ⟨S2x4000x1, .f32⟩
  | 108 => ⟨S2x4000x1x1, .f32⟩
  | 109 => ⟨S2x4000x1, .f32⟩
  | 110 => ⟨S2x4000x1x1, .f32⟩
  | 111 => ⟨S2x4000x1, .f32⟩
  | 112 => ⟨S2x4000x1x1, .f32⟩
  | 113 => ⟨S2x4000x1, .f32⟩
  | 114 => ⟨S2x4000x1x1, .f32⟩
  | 115 => ⟨S2x4000x1, .f32⟩
  | 116 => ⟨S2x4000x1x1, .f32⟩
  | 117 => ⟨S2x4000x1, .f32⟩
  | 118 => ⟨S2x4000x1x1, .f32⟩
  | 119 => ⟨S2x4000x1, .f32⟩
  | 120 => ⟨S2x4000x1x1, .f32⟩
  | 121 => ⟨S2x4000x1, .f32⟩
  | 122 => ⟨S2x4000x1, .f32⟩
  | 123 => ⟨S2x4000x1, .f32⟩
  | 124 => ⟨S2x4000x1, .f32⟩
  | 125 => ⟨S2x4000x1, .f32⟩
  | 126 => ⟨S2x4000x1, .f32⟩
  | 127 => ⟨S2x4000x1, .f32⟩
  | _ => ⟨S2x2000x3, .f32⟩

abbrev hbmTy0_1 (i : Nat) : BufTy := match i % 128 with
  | 0 => ⟨S2x4000x1, .f32⟩
  | 1 => ⟨S2x4000x1, .f32⟩
  | 2 => ⟨S_, .f32⟩
  | 3 => ⟨S2x4000x1, .f32⟩
  | 4 => ⟨S2x4000x1, .i1⟩
  | 5 => ⟨S_, .f32⟩
  | 6 => ⟨S_, .f32⟩
  | 7 => ⟨S2x4000x1, .f32⟩
  | 8 => ⟨S2x4000x1, .f32⟩
  | 9 => ⟨S2x4000x1, .f32⟩
  | 10 => ⟨S2x4000x16384, .f32⟩
  | 11 => ⟨S2x4000x16384, .f32⟩
  | 12 => ⟨S2x4000x16384, .f32⟩
  | 13 => ⟨S2x4000x16384, .f32⟩
  | 14 => ⟨S2x4000x16384, .f32⟩
  | 15 => ⟨S2x4000x1, .f32⟩
  | 16 => ⟨S2x4000x16384, .f32⟩
  | 17 => ⟨S2x4000x16384, .f32⟩
  | 18 => ⟨S2x4000x16384, .f32⟩
  | 19 => ⟨S2x4000x16384, .f32⟩
  | 20 => ⟨S2x4000x16384, .f32⟩
  | 21 => ⟨S2x4000x16384, .f32⟩
  | 22 => ⟨S2x4000x16384, .f32⟩
  | 23 => ⟨S2x4000x16384, .f32⟩
  | 24 => ⟨S2x4000x1, .f32⟩
  | 25 => ⟨S2x4000x16384, .f32⟩
  | 26 => ⟨S2x4000x16384, .f32⟩
  | 27 => ⟨S2x4000x16384, .f32⟩
  | 28 => ⟨S2x4000x16384, .f32⟩
  | 29 => ⟨S2x4000x16384, .f32⟩
  | 30 => ⟨S2x4000x1, .f32⟩
  | 31 => ⟨S2x4000x16384, .f32⟩
  | 32 => ⟨S2x4000x16384, .f32⟩
  | 33 => ⟨S2x4000x16384, .f32⟩
  | 34 => ⟨S2x4000x16384, .f32⟩
  | 35 => ⟨S2x4000x16384, .f32⟩
  | 36 => ⟨S2x4000x16384, .f32⟩
  | 37 => ⟨S2x4000x16384, .f32⟩
  | 38 => ⟨S2x4000x16384, .f32⟩
  | 39 => ⟨S_, .f32⟩
  | 40 => ⟨S2x4000x16384, .f32⟩
  | 41 => ⟨S2x4000x16384, .f32⟩
  | 42 => ⟨S2x4000x16384, .f32⟩
  | 43 => ⟨S_, .f32⟩
  | 44 => ⟨S2x4000x16384, .f32⟩
  | 45 => ⟨S2x4000x16384, .i1⟩
  | 46 => ⟨S_, .f32⟩
  | 47 => ⟨S2x4000x16384, .f32⟩
  | 48 => ⟨S2x4000x16384, .i1⟩
  | 49 => ⟨S2x4000x16384, .i1⟩
  | 50 => ⟨S_, .f32⟩
  | 51 => ⟨S2x4000x16384, .f32⟩
  | 52 => ⟨S2x4000x16384, .i1⟩
  | 53 => ⟨S2x4000x16384, .i1⟩
  | 54 => ⟨S2x4000x16384, .f32⟩
  | 55 => ⟨S2x4000x16384, .f32⟩
  | 56 => ⟨S2x4000x16384, .f32⟩
  | 57 => ⟨S2x4000x16384, .f32⟩
  | 58 => ⟨S2x4000x16384, .f32⟩
  | 59 => ⟨S2x4000x16384, .f32⟩
  | 60 => ⟨S2x4000x16384, .f32⟩
  | 61 => ⟨S2x4000x16384, .f32⟩
  | 62 => ⟨S_, .f32⟩
  | 63 => ⟨S_, .f32⟩
  | 64 => ⟨S2x4000x16384, .f32⟩
  | 65 => ⟨S2x4000x16384, .f32⟩
  | 66 => ⟨S_, .f32⟩
  | 67 => ⟨S2x16384, .f32⟩
  | 68 => ⟨S2x4000x16384, .i32⟩
  | 69 => ⟨S2x1x16384, .f32⟩
  | 70 => ⟨S2x4000x16384, .f32⟩
  | 71 => ⟨S2x4000x16384, .i1⟩
  | 72 => ⟨S_, .i32⟩
  | 73 => ⟨S_, .i32⟩
  | 74 => ⟨S2x4000x16384, .i32⟩
  | 75 => ⟨S2x4000x16384, .i32⟩
  | 76 => ⟨S_, .i32⟩
  | 77 => ⟨S2x16384, .i32⟩
  | 78 => ⟨S2x1x16384, .i32⟩
  | 79 => ⟨S_, .i32⟩
  | 80 => ⟨S2x1x16384, .i32⟩
  | 81 => ⟨S2x1x16384, .i1⟩
  | 82 => ⟨S_, .i32⟩
  | 83 => ⟨S2x1x16384, .i32⟩
  | 84 => ⟨S2x1x16384, .i32⟩
  | 85 => ⟨S2x1x16384, .i32⟩
  | 86 => ⟨S2x1x16384x1, .i32⟩
  | 87 => ⟨S1, .i32⟩
  | 88 => ⟨S_, .i32⟩
  | 89 => ⟨S2x1x16384x1, .i32⟩
  | 90 => ⟨S2x1x16384x1, .i1⟩
  | 91 => ⟨S1x1x1x1, .i32⟩
  | 92 => ⟨S2x1x16384x1, .i32⟩
  | 93 => ⟨S2x1x16384x1, .i1⟩
  | 94 => ⟨S2x1x16384x1, .i1⟩
  | 95 => ⟨S_, .i1⟩
  | 96 => ⟨S2x1x16384, .i1⟩
  | 97 => ⟨S2x1x16384, .f32⟩
  | 98 => ⟨S_, .f32⟩
  | 99 => ⟨S2x1x16384, .f32⟩
  | 100 => ⟨S2x1x16384, .f32⟩
  | 101 => ⟨S2x16384, .f32⟩
  | 102 => ⟨S2x1x16384, .i32⟩
  | 103 => ⟨S_, .i32⟩
  | 104 => ⟨S2x1x16384, .i32⟩
  | 105 => ⟨S2x1x16384, .i1⟩
  | 106 => ⟨S_, .i32⟩
  | 107 => ⟨S2x1x16384, .i32⟩
  | 108 => ⟨S2x1x16384, .i32⟩
  | 109 => ⟨S2x1x16384, .i32⟩
  | 110 => ⟨S2x1x16384x1, .i32⟩
  | 111 => ⟨S1, .i32⟩
  | 112 => ⟨S_, .i32⟩
  | 113 => ⟨S2x1x16384x1, .i32⟩
  | 114 => ⟨S2x1x16384x1, .i1⟩
  | 115 => ⟨S1x1x1x1, .i32⟩
  | 116 => ⟨S2x1x16384x1, .i32⟩
  | 117 => ⟨S2x1x16384x1, .i1⟩
  | 118 => ⟨S2x1x16384x1, .i1⟩
  | 119 => ⟨S_, .i1⟩
  | 120 => ⟨S2x1x16384, .i1⟩
  | 121 => ⟨S2x1x16384, .f32⟩
  | 122 => ⟨S_, .f32⟩
  | 123 => ⟨S2x1x16384, .f32⟩
  | 124 => ⟨S2x1x16384, .f32⟩
  | 125 => ⟨S2x16384, .f32⟩
  | 126 => ⟨S2x1x16384, .i32⟩
  | 127 => ⟨S_, .i32⟩
  | _ => ⟨S2x2000x3, .f32⟩

abbrev hbmTy0_2 (i : Nat) : BufTy := match i % 128 with
  | 0 => ⟨S2x1x16384, .i32⟩
  | 1 => ⟨S2x1x16384, .i1⟩
  | 2 => ⟨S_, .i32⟩
  | 3 => ⟨S2x1x16384, .i32⟩
  | 4 => ⟨S2x1x16384, .i32⟩
  | 5 => ⟨S2x1x16384, .i32⟩
  | 6 => ⟨S2x1x16384x1, .i32⟩
  | 7 => ⟨S1, .i32⟩
  | 8 => ⟨S_, .i32⟩
  | 9 => ⟨S2x1x16384x1, .i32⟩
  | 10 => ⟨S2x1x16384x1, .i1⟩
  | 11 => ⟨S1x1x1x1, .i32⟩
  | 12 => ⟨S2x1x16384x1, .i32⟩
  | 13 => ⟨S2x1x16384x1, .i1⟩
  | 14 => ⟨S2x1x16384x1, .i1⟩
  | 15 => ⟨S_, .i1⟩
  | 16 => ⟨S2x1x16384, .i1⟩
  | 17 => ⟨S2x1x16384, .f32⟩
  | 18 => ⟨S_, .f32⟩
  | 19 => ⟨S2x1x16384, .f32⟩
  | 20 => ⟨S2x1x16384, .f32⟩
  | 21 => ⟨S2x16384, .f32⟩
  | 22 => ⟨S2x1x16384, .i32⟩
  | 23 => ⟨S_, .i32⟩
  | 24 => ⟨S2x1x16384, .i32⟩
  | 25 => ⟨S2x1x16384, .i1⟩
  | 26 => ⟨S_, .i32⟩
  | 27 => ⟨S2x1x16384, .i32⟩
  | 28 => ⟨S2x1x16384, .i32⟩
  | 29 => ⟨S2x1x16384, .i32⟩
  | 30 => ⟨S2x1x16384x1, .i32⟩
  | 31 => ⟨S1, .i32⟩
  | 32 => ⟨S_, .i32⟩
  | 33 => ⟨S2x1x16384x1, .i32⟩
  | 34 => ⟨S2x1x16384x1, .i1⟩
  | 35 => ⟨S1x1x1x1, .i32⟩
  | 36 => ⟨S2x1x16384x1, .i32⟩
  | 37 => ⟨S2x1x16384x1, .i1⟩
  | 38 => ⟨S2x1x16384x1, .i1⟩
  | 39 => ⟨S_, .i1⟩
  | 40 => ⟨S2x1x16384, .i1⟩
  | 41 => ⟨S2x1x16384, .f32⟩
  | 42 => ⟨S_, .f32⟩
  | 43 => ⟨S2x1x16384, .f32⟩
  | 44 => ⟨S2x1x16384, .f32⟩
  | 45 => ⟨S2x16384, .f32⟩
  | 46 => ⟨S_, .f32⟩
  | 47 => ⟨S2x16384, .f32⟩
  | 48 => ⟨S2x16384, .i1⟩
  | 49 => ⟨S_, .i32⟩
  | 50 => ⟨S_, .i32⟩
  | 51 => ⟨S2x16384, .i32⟩
  | 52 => ⟨S2x16384, .i32⟩
  | 53 => ⟨S2x16384x1, .i1⟩
  | 54 => ⟨S2x16384x1, .f32⟩
  | 55 => ⟨S2x16384x1, .f32⟩
  | 56 => ⟨S2x16384x1, .f32⟩
  | 57 => ⟨S2x16384x3, .f32⟩
  | 58 => ⟨S_, .f32⟩
  | 59 => ⟨S_, .f32⟩
  | 60 => ⟨S2x16384x3, .i1⟩
  | 61 => ⟨S2x16384x3, .f32⟩
  | 62 => ⟨S2x16384x3, .f32⟩
  | 63 => ⟨S2x128x128, .i32⟩
  | 64 => ⟨S2x128x128x3, .f32⟩
  | 65 => ⟨S2, .i32⟩
  | 66 => ⟨S2x1x1, .i32⟩
  | 67 => ⟨S_, .i32⟩
  | 68 => ⟨S2x1x1, .i32⟩
  | 69 => ⟨S2x1x1, .i32⟩
  | 70 => ⟨S_, .i32⟩
  | 71 => ⟨S2x128x128, .i32⟩
  | 72 => ⟨S2x128x128, .i1⟩
  | 73 => ⟨S2x128x128, .i32⟩
  | 74 => ⟨S2x128x128, .i32⟩
  | 75 => ⟨S_, .i32⟩
  | 76 => ⟨S_, .i32⟩
  | 77 => ⟨S2x128x128, .i32⟩
  | 78 => ⟨S2x128x128, .i32⟩
  | 79 => ⟨S_, .i32⟩
  | 80 => ⟨S2x128x128, .i32⟩
  | 81 => ⟨S2x128x128, .i1⟩
  | 82 => ⟨S2x128x128, .f32⟩
  | 83 => ⟨S8000x3x3, .f32⟩
  | 84 => ⟨S_, .i32⟩
  | 85 => ⟨S2x128x128, .i32⟩
  | 86 => ⟨S2x128x128, .i1⟩
  | 87 => ⟨S_, .i32⟩
  | 88 => ⟨S_, .i32⟩
  | 89 => ⟨S2x128x128, .i32⟩
  | 90 => ⟨S2x128x128, .i32⟩
  | 91 => ⟨S32768, .i32⟩
  | 92 => ⟨S_, .i32⟩
  | 93 => ⟨S32768, .i32⟩
  | 94 => ⟨S32768, .i1⟩
  | 95 => ⟨S_, .i32⟩
  | 96 => ⟨S32768, .i32⟩
  | 97 => ⟨S32768, .i32⟩
  | 98 => ⟨S32768, .i32⟩
  | 99 => ⟨S32768x1, .i32⟩
  | 100 => ⟨S1, .i32⟩
  | 101 => ⟨S_, .i32⟩
  | 102 => ⟨S32768x1, .i32⟩
  | 103 => ⟨S32768x1, .i1⟩
  | 104 => ⟨S1x1, .i32⟩
  | 105 => ⟨S32768x1, .i32⟩
  | 106 => ⟨S32768x1, .i1⟩
  | 107 => ⟨S32768x1, .i1⟩
  | 108 => ⟨S_, .i1⟩
  | 109 => ⟨S32768, .i1⟩
  | 110 => ⟨S32768x3x3, .f32⟩
  | 111 => ⟨S32768x3x3, .i1⟩
  | 112 => ⟨S_, .f32⟩
  | 113 => ⟨S32768x3x3, .f32⟩
  | 114 => ⟨S32768x3x3, .f32⟩
  | 115 => ⟨S2x128x128x3x3, .f32⟩
  | 116 => ⟨S2x128x128x3x1, .f32⟩
  | 117 => ⟨S2x128x128x3x3, .f32⟩
  | 118 => ⟨S2x128x128x3x3, .f32⟩
  | 119 => ⟨S_, .f32⟩
  | 120 => ⟨S2x128x128x3, .f32⟩
  | 121 => ⟨S2x128x128x1, .i1⟩
  | 122 => ⟨S_, .f32⟩
  | 123 => ⟨S_, .f32⟩
  | 124 => ⟨S2x128x128x3, .i1⟩
  | 125 => ⟨S2x128x128x3, .f32⟩
  | 126 => ⟨S2x128x128x3, .f32⟩
  | 127 => ⟨S2x3x128x128, .f32⟩
  | _ => ⟨S2x2000x3, .f32⟩

abbrev hbmTy0_3 (i : Nat) : BufTy := match i % 128 with
  | 0 => ⟨S2x1x128x128, .f32⟩
  | 1 => ⟨S2x4x128x128, .f32⟩
  | _ => ⟨S2x2000x3, .f32⟩

abbrev hbmTy (i : Nat) : BufTy := match i / 128 with
  | 0 => hbmTy0_0 i
  | 1 => hbmTy0_1 i
  | 2 => hbmTy0_2 i
  | 3 => hbmTy0_3 i
  | _ => ⟨S2x2000x3, .f32⟩

abbrev bufTy : (tb : Table) → Fin (tcTables nBuf tb) → BufTy
  | .hbm, ⟨i, _⟩ => hbmTy i
  | _, _ => ⟨S2x2000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_cst_8 : Ref sig .tc := ⟨.hbm, 38, rfl⟩
abbrev main_v26 : Ref sig .tc := ⟨.hbm, 39, rfl⟩
abbrev main_v27 : Ref sig .tc := ⟨.hbm, 40, rfl⟩
abbrev main_cst_9 : Ref sig .tc := ⟨.hbm, 41, rfl⟩
abbrev main_v28 : Ref sig .tc := ⟨.hbm, 42, rfl⟩
abbrev main_v29 : Ref sig .tc := ⟨.hbm, 43, rfl⟩
abbrev main_cst_10 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_cst_12 : Ref sig .tc := ⟨.hbm, 50, rfl⟩
abbrev main_v34 : Ref sig .tc := ⟨.hbm, 51, rfl⟩
abbrev main_v35 : Ref sig .tc := ⟨.hbm, 52, rfl⟩
abbrev main_cst_13 : Ref sig .tc := ⟨.hbm, 53, rfl⟩
abbrev main_v36 : Ref sig .tc := ⟨.hbm, 54, rfl⟩
abbrev main_v37 : Ref sig .tc := ⟨.hbm, 55, rfl⟩
abbrev main_cst_14 : Ref sig .tc := ⟨.hbm, 56, rfl⟩
abbrev main_v38 : Ref sig .tc := ⟨.hbm, 57, rfl⟩
abbrev main_v39 : Ref sig .tc := ⟨.hbm, 58, rfl⟩
abbrev main_cst_15 : Ref sig .tc := ⟨.hbm, 59, rfl⟩
abbrev main_v40 : Ref sig .tc := ⟨.hbm, 60, rfl⟩
abbrev main_v41 : Ref sig .tc := ⟨.hbm, 61, rfl⟩
abbrev main_cst_16 : Ref sig .tc := ⟨.hbm, 62, rfl⟩
abbrev main_v42 : Ref sig .tc := ⟨.hbm, 63, rfl⟩
abbrev main_v43 : Ref sig .tc := ⟨.hbm, 64, rfl⟩
abbrev main_cst_17 : Ref sig .tc := ⟨.hbm, 65, rfl⟩
abbrev main_v44 : Ref sig .tc := ⟨.hbm, 66, rfl⟩
abbrev main_v45 : Ref sig .tc := ⟨.hbm, 67, rfl⟩
abbrev main_cst_18 : Ref sig .tc := ⟨.hbm, 68, rfl⟩
abbrev main_v46 : Ref sig .tc := ⟨.hbm, 69, rfl⟩
abbrev main_v47 : Ref sig .tc := ⟨.hbm, 70, rfl⟩
abbrev main_cst_19 : Ref sig .tc := ⟨.hbm, 71, rfl⟩
abbrev main_v48 : Ref sig .tc := ⟨.hbm, 72, rfl⟩
abbrev main_v49 : Ref sig .tc := ⟨.hbm, 73, rfl⟩
abbrev main_cst_20 : Ref sig .tc := ⟨.hbm, 74, rfl⟩
abbrev main_v50 : Ref sig .tc := ⟨.hbm, 75, rfl⟩
abbrev main_v51 : Ref sig .tc := ⟨.hbm, 76, rfl⟩
abbrev main_cst_21 : Ref sig .tc := ⟨.hbm, 77, rfl⟩
abbrev main_v52 : Ref sig .tc := ⟨.hbm, 78, rfl⟩
abbrev main_v53 : Ref sig .tc := ⟨.hbm, 79, rfl⟩
abbrev main_cst_22 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_c : Ref sig .tc := ⟨.hbm, 87, rfl⟩
abbrev main_v60 : Ref sig .tc := ⟨.hbm, 88, rfl⟩
abbrev main_v61 : Ref sig .tc := ⟨.hbm, 89, rfl⟩
abbrev main_c_23 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_cst_24 : Ref sig .tc := ⟨.hbm, 130, rfl⟩
abbrev main_v101 : Ref sig .tc := ⟨.hbm, 131, rfl⟩
abbrev main_v102 : Ref sig .tc := ⟨.hbm, 132, rfl⟩
abbrev main_cst_25 : Ref sig .tc := ⟨.hbm, 133, rfl⟩
abbrev main_call0_v0 : Ref sig .tc := ⟨.hbm, 134, rfl⟩
abbrev main_call0_v1 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_cst_26 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_cst_27 : Ref sig .tc := ⟨.hbm, 171, rfl⟩
abbrev main_v137 : Ref sig .tc := ⟨.hbm, 172, rfl⟩
abbrev main_v138 : Ref sig .tc := ⟨.hbm, 173, rfl⟩
abbrev main_cst_28 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_cst_29 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_cst_30 : Ref sig .tc := ⟨.hbm, 190, rfl⟩
abbrev main_call1_v0 : Ref sig .tc := ⟨.hbm, 191, rfl⟩
abbrev main_call1_v1 : Ref sig .tc := ⟨.hbm, 192, rfl⟩
abbrev main_v153 : Ref sig .tc := ⟨.hbm, 193, rfl⟩
abbrev main_cst_31 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_c_32 : Ref sig .tc := ⟨.hbm, 200, rfl⟩
abbrev main_call2_v0 : Ref sig .tc := ⟨.hbm, 201, rfl⟩
abbrev main_call2_v1 : Ref sig .tc := ⟨.hbm, 202, rfl⟩
abbrev main_v159 : Ref sig .tc := ⟨.hbm, 203, rfl⟩
abbrev main_c_33 : Ref sig .tc := ⟨.hbm, 204, rfl⟩
abbrev main_v160 : Ref sig .tc := ⟨.hbm, 205, rfl⟩
abbrev main_v161 : Ref sig .tc := ⟨.hbm, 206, rfl⟩
abbrev main_call3_c : Ref sig .tc := ⟨.hbm, 207, rfl⟩
abbrev main_call3_v0 : Ref sig .tc := ⟨.hbm, 208, rfl⟩
abbrev main_call3_v1 : Ref sig .tc := ⟨.hbm, 209, rfl⟩
abbrev main_call3_c_0 : Ref sig .tc := ⟨.hbm, 210, rfl⟩
abbrev main_call3_v2 : Ref sig .tc := ⟨.hbm, 211, rfl⟩
abbrev main_call3_v3 : Ref sig .tc := ⟨.hbm, 212, rfl⟩
abbrev main_call3_v4 : Ref sig .tc := ⟨.hbm, 213, rfl⟩
abbrev main_call3_v5 : Ref sig .tc := ⟨.hbm, 214, rfl⟩
abbrev main_call3_c_1 : Ref sig .tc := ⟨.hbm, 215, rfl⟩
abbrev main_call3_c_2 : Ref sig .tc := ⟨.hbm, 216, rfl⟩
abbrev main_call3_v6 : Ref sig .tc := ⟨.hbm, 217, rfl⟩
abbrev main_call3_v7 : Ref sig .tc := ⟨.hbm, 218, rfl⟩
abbrev main_call3_v8 : Ref sig .tc := ⟨.hbm, 219, rfl⟩
abbrev main_call3_v9 : Ref sig .tc := ⟨.hbm, 220, rfl⟩
abbrev main_call3_v10 : Ref sig .tc := ⟨.hbm, 221, rfl⟩
abbrev main_call3_v11 : Ref sig .tc := ⟨.hbm, 222, rfl⟩
abbrev main_call3_c_3 : Ref sig .tc := ⟨.hbm, 223, rfl⟩
abbrev main_call3_v12 : Ref sig .tc := ⟨.hbm, 224, rfl⟩
abbrev main_call3_v13 : Ref sig .tc := ⟨.hbm, 225, rfl⟩
abbrev main_call3_cst : Ref sig .tc := ⟨.hbm, 226, rfl⟩
abbrev main_call3_v14 : Ref sig .tc := ⟨.hbm, 227, rfl⟩
abbrev main_v162 : Ref sig .tc := ⟨.hbm, 228, rfl⟩
abbrev main_v163 : Ref sig .tc := ⟨.hbm, 229, rfl⟩
abbrev main_v164 : Ref sig .tc := ⟨.hbm, 230, rfl⟩
abbrev main_call4_c : Ref sig .tc := ⟨.hbm, 231, rfl⟩
abbrev main_call4_v0 : Ref sig .tc := ⟨.hbm, 232, rfl⟩
abbrev main_call4_v1 : Ref sig .tc := ⟨.hbm, 233, rfl⟩
abbrev main_call4_c_0 : Ref sig .tc := ⟨.hbm, 234, rfl⟩
abbrev main_call4_v2 : Ref sig .tc := ⟨.hbm, 235, rfl⟩
abbrev main_call4_v3 : Ref sig .tc := ⟨.hbm, 236, rfl⟩
abbrev main_call4_v4 : Ref sig .tc := ⟨.hbm, 237, rfl⟩
abbrev main_call4_v5 : Ref sig .tc := ⟨.hbm, 238, rfl⟩
abbrev main_call4_c_1 : Ref sig .tc := ⟨.hbm, 239, rfl⟩
abbrev main_call4_c_2 : Ref sig .tc := ⟨.hbm, 240, rfl⟩
abbrev main_call4_v6 : Ref sig .tc := ⟨.hbm, 241, rfl⟩
abbrev main_call4_v7 : Ref sig .tc := ⟨.hbm, 242, rfl⟩
abbrev main_call4_v8 : Ref sig .tc := ⟨.hbm, 243, rfl⟩
abbrev main_call4_v9 : Ref sig .tc := ⟨.hbm, 244, rfl⟩
abbrev main_call4_v10 : Ref sig .tc := ⟨.hbm, 245, rfl⟩
abbrev main_call4_v11 : Ref sig .tc := ⟨.hbm, 246, rfl⟩
abbrev main_call4_c_3 : Ref sig .tc := ⟨.hbm, 247, rfl⟩
abbrev main_call4_v12 : Ref sig .tc := ⟨.hbm, 248, rfl⟩
abbrev main_call4_v13 : Ref sig .tc := ⟨.hbm, 249, rfl⟩
abbrev main_call4_cst : Ref sig .tc := ⟨.hbm, 250, rfl⟩
abbrev main_call4_v14 : Ref sig .tc := ⟨.hbm, 251, rfl⟩
abbrev main_v165 : Ref sig .tc := ⟨.hbm, 252, rfl⟩
abbrev main_v166 : Ref sig .tc := ⟨.hbm, 253, rfl⟩
abbrev main_v167 : Ref sig .tc := ⟨.hbm, 254, rfl⟩
abbrev main_call5_c : Ref sig .tc := ⟨.hbm, 255, rfl⟩
abbrev main_call5_v0 : Ref sig .tc := ⟨.hbm, 256, rfl⟩
abbrev main_call5_v1 : Ref sig .tc := ⟨.hbm, 257, rfl⟩
abbrev main_call5_c_0 : Ref sig .tc := ⟨.hbm, 258, rfl⟩
abbrev main_call5_v2 : Ref sig .tc := ⟨.hbm, 259, rfl⟩
abbrev main_call5_v3 : Ref sig .tc := ⟨.hbm, 260, rfl⟩
abbrev main_call5_v4 : Ref sig .tc := ⟨.hbm, 261, rfl⟩
abbrev main_call5_v5 : Ref sig .tc := ⟨.hbm, 262, rfl⟩
abbrev main_call5_c_1 : Ref sig .tc := ⟨.hbm, 263, rfl⟩
abbrev main_call5_c_2 : Ref sig .tc := ⟨.hbm, 264, rfl⟩
abbrev main_call5_v6 : Ref sig .tc := ⟨.hbm, 265, rfl⟩
abbrev main_call5_v7 : Ref sig .tc := ⟨.hbm, 266, rfl⟩
abbrev main_call5_v8 : Ref sig .tc := ⟨.hbm, 267, rfl⟩
abbrev main_call5_v9 : Ref sig .tc := ⟨.hbm, 268, rfl⟩
abbrev main_call5_v10 : Ref sig .tc := ⟨.hbm, 269, rfl⟩
abbrev main_call5_v11 : Ref sig .tc := ⟨.hbm, 270, rfl⟩
abbrev main_call5_c_3 : Ref sig .tc := ⟨.hbm, 271, rfl⟩
abbrev main_call5_v12 : Ref sig .tc := ⟨.hbm, 272, rfl⟩
abbrev main_call5_v13 : Ref sig .tc := ⟨.hbm, 273, rfl⟩
abbrev main_call5_cst : Ref sig .tc := ⟨.hbm, 274, rfl⟩
abbrev main_call5_v14 : Ref sig .tc := ⟨.hbm, 275, rfl⟩
abbrev main_v168 : Ref sig .tc := ⟨.hbm, 276, rfl⟩
abbrev main_v169 : Ref sig .tc := ⟨.hbm, 277, rfl⟩
abbrev main_v170 : Ref sig .tc := ⟨.hbm, 278, rfl⟩
abbrev main_call6_c : Ref sig .tc := ⟨.hbm, 279, rfl⟩
abbrev main_call6_v0 : Ref sig .tc := ⟨.hbm, 280, rfl⟩
abbrev main_call6_v1 : Ref sig .tc := ⟨.hbm, 281, rfl⟩
abbrev main_call6_c_0 : Ref sig .tc := ⟨.hbm, 282, rfl⟩
abbrev main_call6_v2 : Ref sig .tc := ⟨.hbm, 283, rfl⟩
abbrev main_call6_v3 : Ref sig .tc := ⟨.hbm, 284, rfl⟩
abbrev main_call6_v4 : Ref sig .tc := ⟨.hbm, 285, rfl⟩
abbrev main_call6_v5 : Ref sig .tc := ⟨.hbm, 286, rfl⟩
abbrev main_call6_c_1 : Ref sig .tc := ⟨.hbm, 287, rfl⟩
abbrev main_call6_c_2 : Ref sig .tc := ⟨.hbm, 288, rfl⟩
abbrev main_call6_v6 : Ref sig .tc := ⟨.hbm, 289, rfl⟩
abbrev main_call6_v7 : Ref sig .tc := ⟨.hbm, 290, rfl⟩
abbrev main_call6_v8 : Ref sig .tc := ⟨.hbm, 291, rfl⟩
abbrev main_call6_v9 : Ref sig .tc := ⟨.hbm, 292, rfl⟩
abbrev main_call6_v10 : Ref sig .tc := ⟨.hbm, 293, rfl⟩
abbrev main_call6_v11 : Ref sig .tc := ⟨.hbm, 294, rfl⟩
abbrev main_call6_c_3 : Ref sig .tc := ⟨.hbm, 295, rfl⟩
abbrev main_call6_v12 : Ref sig .tc := ⟨.hbm, 296, rfl⟩
abbrev main_call6_v13 : Ref sig .tc := ⟨.hbm, 297, rfl⟩
abbrev main_call6_cst : Ref sig .tc := ⟨.hbm, 298, rfl⟩
abbrev main_call6_v14 : Ref sig .tc := ⟨.hbm, 299, rfl⟩
abbrev main_v171 : Ref sig .tc := ⟨.hbm, 300, rfl⟩
abbrev main_v172 : Ref sig .tc := ⟨.hbm, 301, rfl⟩
abbrev main_cst_34 : Ref sig .tc := ⟨.hbm, 302, rfl⟩
abbrev main_v173 : Ref sig .tc := ⟨.hbm, 303, rfl⟩
abbrev main_v174 : Ref sig .tc := ⟨.hbm, 304, rfl⟩
abbrev main_c_35 : Ref sig .tc := ⟨.hbm, 305, rfl⟩
abbrev main_call7_v0 : Ref sig .tc := ⟨.hbm, 306, rfl⟩
abbrev main_call7_v1 : Ref sig .tc := ⟨.hbm, 307, rfl⟩
abbrev main_v175 : Ref sig .tc := ⟨.hbm, 308, rfl⟩
abbrev main_v176 : Ref sig .tc := ⟨.hbm, 309, rfl⟩
abbrev main_v177 : Ref sig .tc := ⟨.hbm, 310, rfl⟩
abbrev main_v178 : Ref sig .tc := ⟨.hbm, 311, rfl⟩
abbrev main_v179 : Ref sig .tc := ⟨.hbm, 312, rfl⟩
abbrev main_v180 : Ref sig .tc := ⟨.hbm, 313, rfl⟩
abbrev main_cst_36 : Ref sig .tc := ⟨.hbm, 314, rfl⟩
abbrev main_call8_v0 : Ref sig .tc := ⟨.hbm, 315, rfl⟩
abbrev main_call8_v1 : Ref sig .tc := ⟨.hbm, 316, rfl⟩
abbrev main_call8_v2 : Ref sig .tc := ⟨.hbm, 317, rfl⟩
abbrev main_v181 : Ref sig .tc := ⟨.hbm, 318, rfl⟩
abbrev main_v182 : Ref sig .tc := ⟨.hbm, 319, rfl⟩
abbrev main_v183 : Ref sig .tc := ⟨.hbm, 320, rfl⟩
abbrev main_v184 : Ref sig .tc := ⟨.hbm, 321, rfl⟩
abbrev main_v185 : Ref sig .tc := ⟨.hbm, 322, rfl⟩
abbrev main_c_37 : Ref sig .tc := ⟨.hbm, 323, rfl⟩
abbrev main_v186 : Ref sig .tc := ⟨.hbm, 324, rfl⟩
abbrev main_v187 : Ref sig .tc := ⟨.hbm, 325, rfl⟩
abbrev main_c_38 : Ref sig .tc := ⟨.hbm, 326, rfl⟩
abbrev main_v188 : Ref sig .tc := ⟨.hbm, 327, rfl⟩
abbrev main_v189 : Ref sig .tc := ⟨.hbm, 328, rfl⟩
abbrev main_v190 : Ref sig .tc := ⟨.hbm, 329, rfl⟩
abbrev main_v191 : Ref sig .tc := ⟨.hbm, 330, rfl⟩
abbrev main_c_39 : Ref sig .tc := ⟨.hbm, 331, rfl⟩
abbrev main_call9_v0 : Ref sig .tc := ⟨.hbm, 332, rfl⟩
abbrev main_call9_v1 : Ref sig .tc := ⟨.hbm, 333, rfl⟩
abbrev main_v192 : Ref sig .tc := ⟨.hbm, 334, rfl⟩
abbrev main_c_40 : Ref sig .tc := ⟨.hbm, 335, rfl⟩
abbrev main_v193 : Ref sig .tc := ⟨.hbm, 336, rfl⟩
abbrev main_v194 : Ref sig .tc := ⟨.hbm, 337, rfl⟩
abbrev main_v195 : Ref sig .tc := ⟨.hbm, 338, rfl⟩
abbrev main_v196 : Ref sig .tc := ⟨.hbm, 339, rfl⟩
abbrev main_c_41 : Ref sig .tc := ⟨.hbm, 340, rfl⟩
abbrev main_v197 : Ref sig .tc := ⟨.hbm, 341, rfl⟩
abbrev main_v198 : Ref sig .tc := ⟨.hbm, 342, rfl⟩
abbrev main_c_42 : Ref sig .tc := ⟨.hbm, 343, rfl⟩
abbrev main_call10_v0 : Ref sig .tc := ⟨.hbm, 344, rfl⟩
abbrev main_call10_v1 : Ref sig .tc := ⟨.hbm, 345, rfl⟩
abbrev main_v199 : Ref sig .tc := ⟨.hbm, 346, rfl⟩
abbrev main_v200 : Ref sig .tc := ⟨.hbm, 347, rfl⟩
abbrev main_call11_c : Ref sig .tc := ⟨.hbm, 348, rfl⟩
abbrev main_call11_v0 : Ref sig .tc := ⟨.hbm, 349, rfl⟩
abbrev main_call11_v1 : Ref sig .tc := ⟨.hbm, 350, rfl⟩
abbrev main_call11_c_0 : Ref sig .tc := ⟨.hbm, 351, rfl⟩
abbrev main_call11_v2 : Ref sig .tc := ⟨.hbm, 352, rfl⟩
abbrev main_call11_v3 : Ref sig .tc := ⟨.hbm, 353, rfl⟩
abbrev main_call11_v4 : Ref sig .tc := ⟨.hbm, 354, rfl⟩
abbrev main_call11_v5 : Ref sig .tc := ⟨.hbm, 355, rfl⟩
abbrev main_call11_c_1 : Ref sig .tc := ⟨.hbm, 356, rfl⟩
abbrev main_call11_c_2 : Ref sig .tc := ⟨.hbm, 357, rfl⟩
abbrev main_call11_v6 : Ref sig .tc := ⟨.hbm, 358, rfl⟩
abbrev main_call11_v7 : Ref sig .tc := ⟨.hbm, 359, rfl⟩
abbrev main_call11_v8 : Ref sig .tc := ⟨.hbm, 360, rfl⟩
abbrev main_call11_v9 : Ref sig .tc := ⟨.hbm, 361, rfl⟩
abbrev main_call11_v10 : Ref sig .tc := ⟨.hbm, 362, rfl⟩
abbrev main_call11_v11 : Ref sig .tc := ⟨.hbm, 363, rfl⟩
abbrev main_call11_c_3 : Ref sig .tc := ⟨.hbm, 364, rfl⟩
abbrev main_call11_v12 : Ref sig .tc := ⟨.hbm, 365, rfl⟩
abbrev main_call11_v13 : Ref sig .tc := ⟨.hbm, 366, rfl⟩
abbrev main_call11_v14 : Ref sig .tc := ⟨.hbm, 367, rfl⟩
abbrev main_call11_cst : Ref sig .tc := ⟨.hbm, 368, rfl⟩
abbrev main_call11_v15 : Ref sig .tc := ⟨.hbm, 369, rfl⟩
abbrev main_v201 : Ref sig .tc := ⟨.hbm, 370, rfl⟩
abbrev main_v202 : Ref sig .tc := ⟨.hbm, 371, rfl⟩
abbrev main_v203 : Ref sig .tc := ⟨.hbm, 372, rfl⟩
abbrev main_v204 : Ref sig .tc := ⟨.hbm, 373, rfl⟩
abbrev main_v205 : Ref sig .tc := ⟨.hbm, 374, rfl⟩
abbrev main_cst_43 : Ref sig .tc := ⟨.hbm, 375, rfl⟩
abbrev main_v206 : Ref sig .tc := ⟨.hbm, 376, rfl⟩
abbrev main_v207 : Ref sig .tc := ⟨.hbm, 377, rfl⟩
abbrev main_cst_44 : Ref sig .tc := ⟨.hbm, 378, rfl⟩
abbrev main_call12_v0 : Ref sig .tc := ⟨.hbm, 379, rfl⟩
abbrev main_call12_v1 : Ref sig .tc := ⟨.hbm, 380, rfl⟩
abbrev main_call12_v2 : Ref sig .tc := ⟨.hbm, 381, rfl⟩
abbrev main_v208 : Ref sig .tc := ⟨.hbm, 382, rfl⟩
abbrev main_v209 : Ref sig .tc := ⟨.hbm, 383, rfl⟩
abbrev main_v210 : Ref sig .tc := ⟨.hbm, 384, rfl⟩
abbrev main_v211 : Ref sig .tc := ⟨.hbm, 385, rfl⟩

abbrev nD : Nat := 1
abbrev τ : Topo := Topo.v7x

variable {F : FTy → Type} [FloatOps F]
-- ==== Proof.Raster.Tri.lean ====
/- The scalar mathematics of one triangle and one pixel: the barycentric weights as quotients, and as affine functions of the pixel. -/
module

public import Idealize.ShloMosaic.PureOps.Ideal

@[expose] public section

noncomputable section

namespace Cert.Raster

open Idealize.ShloMosaic

/-- A triangle in the image: `t v a` is coordinate `a` (x, y, depth) of corner `v`. -/
abbrev Tri := Fin 3 → Fin 3 → EReal

/-- Twice the signed area of the triangle. -/
def den (t : Tri) : EReal := (t 1 1 - t 2 1) * (t 0 0 - t 2 0) + (t 2 0 - t 1 0) * (t 0 1 - t 2 1)

/-- The least area that divides: an area smaller than it is replaced by it. -/
def eps : EReal := Ideal.ofBits .f32 841731191#32

/-- The area that divides. -/
def den' (t : Tri) : EReal := if max (den t) (-den t) < eps then eps else den t

/-- The depth of the background. -/
def far : EReal := Ideal.ofBits .f32 1232348160#32

/-- The kernel's nine numbers of a triangle: the first weight's affine coefficients, the second's, and the corners' depths. -/
def coef (t : Tri) : Fin 9 → EReal :=
  ![(t 1 1 - t 2 1) * Ideal.div 1 (den' t),
    (t 2 0 - t 1 0) * Ideal.div 1 (den' t),
    -((t 1 1 - t 2 1) * Ideal.div 1 (den' t) * t 2 0) - (t 2 0 - t 1 0) * Ideal.div 1 (den' t) * t 2 1,
    (t 2 1 - t 0 1) * Ideal.div 1 (den' t),
    (t 0 0 - t 2 0) * Ideal.div 1 (den' t),
    -((t 2 1 - t 0 1) * Ideal.div 1 (den' t) * t 2 0) - (t 0 0 - t 2 0) * Ideal.div 1 (den' t) * t 2 1,
    t 0 2, t 1 2, t 2 2]

/-- The nine numbers of a padding column. -/
def padNum : Fin 9 → EReal := fun k => if k = 2 then Ideal.ofBits .f32 3212836864#32 else Ideal.ofBits .f32 0#32

/-- The first weight at a pixel, from a triangle's nine numbers. -/
def kw0 (q : Fin 9 → EReal) (px py : EReal) : EReal := q 0 * px + (q 1 * py + q 2)

/-- The second weight at a pixel, from a triangle's nine numbers. -/
def kw1 (q : Fin 9 → EReal) (px py : EReal) : EReal := q 3 * px + (q 4 * py + q 5)

/-- The third weight at a pixel, from a triangle's nine numbers. -/
def kw2 (q : Fin 9 → EReal) (px py : EReal) : EReal := 1 - kw0 q px py - kw1 q px py

/-- The depth of a triangle at a pixel, from its nine numbers. -/
def kd (q : Fin 9 → EReal) (px py : EReal) : EReal := kw0 q px py * q 6 + kw1 q px py * q 7 + kw2 q px py * q 8

/-- Whether a triangle covers a pixel, from its nine numbers. -/
def kin (q : Fin 9 → EReal) (px py : EReal) : Prop := (0 ≤ kw0 q px py ∧ 0 ≤ kw1 q px py) ∧ 0 ≤ kw2 q px py

/-- A whole number as an extended real. -/
def num (n : ℕ) : EReal := ((n : ℝ) : EReal)

end Cert.Raster
end
-- ==== Proof.Raster.Words.lean ====
/- Small whole numbers as 32-bit words. -/
module

public import proofs.«01_k».proof.Proof.Raster.Tri
public import Idealize.ShloMosaic.Lib.WordCmp
public import Idealize.ShloMosaic.Lib.IdealHost

@[expose] public section

noncomputable section

namespace Cert.Raster

open Idealize.ShloMosaic

/-- A small number's word reads back as the number. -/
theorem toInt_word (n : ℕ) (h : n < 2147483648) : (BitVec.ofNat 32 n).toInt = n := by
  rw [BitVec.toInt_eq_toNat_of_lt] <;> simp only [BitVec.toNat_ofNat] <;> omega

/-- A small number's word is not negative. -/
theorem sge_word (n : ℕ) (h : n < 2147483648) : IntOp.cmpi .sge (BitVec.ofNat 32 n) 0#32 = 1#1 := by
  rw [WordCmp.cmpi_sge_eq, toInt_word n h]; simp

/-- A small number's word is found not to be negative. -/
theorem slt_word (n : ℕ) (h : n < 2147483648) : IntOp.cmpi .slt (BitVec.ofNat 32 n) 0#32 = 0#1 := by
  rw [WordCmp.cmpi_slt_eq, toInt_word n h, decide_eq_false (by simp)]; rfl

/-- A number within bounds is not clamped. -/
theorem index_word (n m : ℕ) (h : n < 2147483648) (hm : n ≤ m) : min (BitVec.ofNat 32 n).toInt.toNat m = n := by
  rw [toInt_word n h]; simpa using hm

/-- A whole number's word, read as a float. -/
theorem num_word (n : ℕ) (h : n < 2147483648) : FloatOps.sitofp (F := Ideal) .f32 (BitVec.ofNat 32 n) = num n := by
  show (((BitVec.ofNat 32 n).toInt : ℝ) : EReal) = _
  rw [toInt_word n h]; rfl

/-- Two whole numbers' sum. -/
theorem num_add (a b : ℕ) : num a + num b = num (a + b) := by
  unfold num; rw [← EReal.coe_add]; push_cast; rfl

open scoped Classical in
/-- A choice on four comparisons joined. -/
theorem select_four {α : Type} (a b c d : Prop) [Decidable a] [Decidable b] [Decidable c] [Decidable d] (x y : α) :
    Scalar.select (IntOp.andi (IntOp.andi (IntOp.andi (BitVec.ofBool (decide a)) (BitVec.ofBool (decide b))) (BitVec.ofBool (decide c)))
      (BitVec.ofBool (decide d))) x y = if ((a ∧ b) ∧ c) ∧ d then x else y := by
  by_cases ha : a <;> by_cases hb : b <;> by_cases hc : c <;> by_cases hd : d <;> simp only [ha, hb, hc, hd] <;> rfl

end Cert.Raster
end
-- ==== Proof.Raster.Trip.lean ====
/- One trip of the kernel's loop over a chunk's triangles, at a pixel. -/
module

public import proofs.«01_k».proof.Proof.Gen.KernelIdeal.Frame
public import proofs.«01_k».proof.Proof.Raster.Words
public import Idealize.ShloMosaic.Lib.Pointwise
public import Idealize.ShloMosaic.Lib.Pipeline.Value

@[expose] public section

set_option maxRecDepth 8192

noncomputable section

namespace Cert.KernelIdeal.Raster

open Idealize.ShloMosaic Idealize.ShloMosaic.TcCoe Idealize.ShloMosaic.Tactic Idealize.SL.Sem Cert.KernelIdeal Cert.KernelIdeal.Gen Cert.Raster

/-- A number loaded from a triangle's column. -/
theorem load_at (arg3 : Memref sig .tc .smem S1x9x512 .f32) (X : BufTy.Contents (Elt Ideal) arg3.view.ty) (a : Fin 9) (k : Fin 512) (n : ℕ)
    (hn : n = k.val) (h : ∀ d, (![0, a.val, n] : Fin 3 → ℕ) d + (![1, 1, 1] : Fin 3 → ℕ) d ≤ S1x9x512.size d) :
    View.readAt (Elt Ideal) arg3.view (Rect.unit (s := S1x9x512) ![0, a.val, n] ![1, 1, 1] h).toLoadRect X (Shape.Idx.first (s := (Rect.unit (s := S1x9x512) ![0, a.val, n] ![1, 1, 1] h).shape) (Nat.one_pos : 0 < 1))
      = arg3.view.read (Elt Ideal) X (ix3 0 a k) := by
  subst hn
  refine congrArg (arg3.view.read (Elt Ideal) X) (funext fun d => Fin.ext ?_)
  match d with
  | 0 => rfl
  | 1 => rfl
  | 2 => rfl

/-- The trip's number as an index. -/
theorem iv_word (k : ℕ) (h : k < 512) : BitVec.toNat (Scalar.indexCast (Scf.iv 0#32 1#32 k)) = k := by
  show BitVec.toNat (0#32 + BitVec.ofNat 32 k * 1#32) = k
  simp; omega

/-- The pixel row of a block's row, in the kernel's words. -/
theorem row_word (n : Fin 16) (r : Fin 8) :
    FloatOps.sitofp (F := Ideal) .f32 (BitVec.ofNat 32 r.val) + (((Scalar.muli (BitVec.ofNat 32 n.val) 8#32).toInt : ℝ) : EReal)
      = num (n.val * 8 + r.val) := by
  have e : Scalar.muli (BitVec.ofNat 32 n.val) 8#32 = BitVec.ofNat 32 (n.val * 8) := (BitVec.ofNat_mul ..).symm
  rw [num_word r (by omega), e, toInt_word _ (by omega), add_comm, ← num_add]
  rfl

/-- The number of a chunk's triangle, in the kernel's words. -/
theorem face_word (n : Fin 8) (k : ℕ) :
    IntOp.addi (Scalar.muli (BitVec.ofNat 32 n.val) 512#32) (Scf.iv 0#32 1#32 k) = BitVec.ofNat 32 (n.val * 512 + k) := by
  show BitVec.ofNat 32 n.val * BitVec.ofNat 32 512 + (0#32 + BitVec.ofNat 32 k * 1#32) = _
  rw [← BitVec.ofNat_mul, BitVec.zero_add, BitVec.mul_one, ← BitVec.ofNat_add]

open scoped Classical in
/-- One trip at a pixel: the triangle replaces the nearest so far where it covers the pixel and is strictly nearer. -/
theorem trip_at (c : Dev nD) (i : grid0.Coords) (arg3 : Memref sig .tc .smem S1x9x512 .f32) (harg3 : arg3.IsWhole)
    (arg4 : Memref sig .tc .vmem S1x8x128 .i32) (harg4 : arg4.IsWhole) (arg5 : Memref sig .tc .vmem S8x128 .f32) (harg5 : arg5.IsWhole)
    (arg6 : Memref sig .tc .vmem S8x128 .i32) (harg6 : arg6.IsWhole) (X : BufTy.Contents (Elt Ideal) arg3.view.ty) (k : Fin k0_t1_loop.trips)
    (hk : k.val < 512) (q : Fin 9 → EReal) (hq : ∀ a, arg3.view.read (Elt Ideal) X (ix3 0 a ⟨k, hk⟩) = q a)
    (acc : Vec Ideal S8x128 .f32 × Vec Ideal S8x128 .i32) (r : Fin 8) (l : Fin 128) (px py : EReal) (hpx : px = num l.val)
    (hpy : py = num ((i 1).val * 8 + r.val)) :
    (tripR_k0_t1 (F := Ideal) Variants.none c none i arg3 harg3 arg4 harg4 arg5 harg5 arg6 harg6 X k acc).1 (ix2 r l)
        = (if kin q px py ∧ kd q px py < acc.1 (ix2 r l) then kd q px py else acc.1 (ix2 r l)) ∧
    (tripR_k0_t1 (F := Ideal) Variants.none c none i arg3 harg3 arg4 harg4 arg5 harg5 arg6 harg6 X k acc).2 (ix2 r l)
        = if kin q px py ∧ kd q px py < acc.1 (ix2 r l) then BitVec.ofNat 32 ((i 2).val * 512 + k.val) else acc.2 (ix2 r l) := by
  subst hpx hpy
  have e := fun a h => (load_at arg3 X a ⟨k, hk⟩ _ (iv_word k hk) h).trans (hq a)
  unfold tripR_k0_t1 trip_k0_t1
  sl_unfold_words
  dsimp only
  erw [e 0, e 1, e 2, e 3, e 4, e 5, e 6, e 7, e 8]
  simp only [k0_pay7, k0_pay8, k0_pay6, k0_pay5, k0_pay12, k0_pay13, k0_pay14, k0_pay15, k0_pay16, k0_pay1, k0_pay2]
  pointwise
  rw [num_word l.val (by omega), row_word (i 1) r]
  exact ⟨(select_four ..).trans (if_congr Iff.rfl rfl rfl),
    ((congrArg (fun w => Scalar.select _ w _) (face_word (i 2) k.val)).trans (select_four ..)).trans (if_congr Iff.rfl rfl rfl)⟩

end Cert.KernelIdeal.Raster
end
-- ==== Proof.Raster.Walk.lean ====
/- The kernel's walk over a batch's triangles, at one pixel. -/
module

public import proofs.«01_k».proof.Proof.Raster.Trip

@[expose] public section

set_option maxRecDepth 8192

noncomputable section

namespace Cert.Raster

open scoped Classical in
/-- The nearest depth and the nearest triangle after the first `n` triangles, whose nine numbers are `q 0`, `q 1`, …. -/
def walk (q : ℕ → Fin 9 → EReal) (px py : EReal) : ℕ → EReal × BitVec 32
  | 0 => (far, 0#32)
  | n + 1 => if kin (q n) px py ∧ kd (q n) px py < (walk q px py n).1 then (kd (q n) px py, BitVec.ofNat 32 n) else walk q px py n

end Cert.Raster

namespace Cert.KernelIdeal.Raster

open Idealize.ShloMosaic Idealize.ShloMosaic.TcCoe Idealize.ShloMosaic.Tactic Idealize.SL.Sem Cert.KernelIdeal Cert.KernelIdeal.Gen Cert.Raster

/-- The loop over a chunk continues the walk. -/
theorem loop_at (c : Dev nD) (i : grid0.Coords) (arg3 : Memref sig .tc .smem S1x9x512 .f32) (harg3 : arg3.IsWhole)
    (arg4 : Memref sig .tc .vmem S1x8x128 .i32) (harg4 : arg4.IsWhole) (arg5 : Memref sig .tc .vmem S8x128 .f32) (harg5 : arg5.IsWhole)
    (arg6 : Memref sig .tc .vmem S8x128 .i32) (harg6 : arg6.IsWhole) (X : BufTy.Contents (Elt Ideal) arg3.view.ty)
    (q : ℕ → Fin 9 → EReal) (hq : ∀ (k : Fin 512) a, arg3.view.read (Elt Ideal) X (ix3 0 a k) = q ((i 2).val * 512 + k.val) a)
    (acc : Vec Ideal S8x128 .f32 × Vec Ideal S8x128 .i32) (r : Fin 8) (l : Fin 128)
    (hacc : (acc.1 (ix2 r l), acc.2 (ix2 r l)) = walk q (num l.val) (num ((i 1).val * 8 + r.val)) ((i 2).val * 512)) (k : ℕ) (hk : k ≤ 512) :
    ((st_k0_t1 (F := Ideal) Variants.none c none i arg3 harg3 arg4 harg4 arg5 harg5 arg6 harg6 X acc k).1 (ix2 r l),
      (st_k0_t1 (F := Ideal) Variants.none c none i arg3 harg3 arg4 harg4 arg5 harg5 arg6 harg6 X acc k).2 (ix2 r l))
      = walk q (num l.val) (num ((i 1).val * 8 + r.val)) ((i 2).val * 512 + k) := by
  classical
  induction k with
  | zero => rw [st_k0_t1_zero]; exact hacc
  | succ k ih =>
    have ih := ih (by omega)
    have hs := st_k0_t1_succ (F := Ideal) Variants.none c none i arg3 harg3 arg4 harg4 arg5 harg5 arg6 harg6 X acc ⟨k, by
      have : k0_t1_loop.trips = 512 := by decide +kernel
      omega⟩
    rw [hs]
    have ht := trip_at c i arg3 harg3 arg4 harg4 arg5 harg5 arg6 harg6 X ⟨k, by
      have : k0_t1_loop.trips = 512 := by decide +kernel
      omega⟩ (show k < 512 by omega) (q ((i 2).val * 512 + k)) (fun a => hq ⟨k, by omega⟩ a)
      (st_k0_t1 (F := Ideal) Variants.none c none i arg3 harg3 arg4 harg4 arg5 harg5 arg6 harg6 X acc k) r l _ _ rfl rfl
    rw [Prod.ext_iff]
    refine ⟨ht.1.trans ?_, ht.2.trans ?_⟩
    all_goals
      rw [← Nat.add_assoc, walk, ← ih]
      dsimp only
      split <;> rfl

end Cert.KernelIdeal.Raster
end
-- ==== Proof.Raster.Point.lean ====
/- What a grid point leaves in the kernel's scratch and in its output block, at a pixel. -/
module

public import proofs.«01_k».proof.Proof.Raster.Walk

@[expose] public section

set_option maxRecDepth 8192

noncomputable section

namespace Cert.KernelIdeal.Raster

open Idealize.ShloMosaic Idealize.ShloMosaic.TcCoe Idealize.ShloMosaic.Tactic Idealize.SL.Sem Cert.KernelIdeal Cert.KernelIdeal.Gen Cert.Raster

/-- The offsets of a whole array of two axes are zero. -/
theorem hz : (![0, 0] : Fin 2 → ℕ) = fun _ => 0 := funext fun a => by fin_cases a <;> rfl

/-- The offsets of a whole array of three axes are zero. -/
theorem hz3 : (![0, 0, 0] : Fin 3 → ℕ) = fun _ => 0 := funext fun a => by fin_cases a <;> rfl

variable (c : Dev nD) (i : grid0.Coords) (arg3 : Memref sig .tc .smem S1x9x512 .f32) (harg3 : arg3.IsWhole)
    (arg4 : Memref sig .tc .vmem S1x8x128 .i32) (harg4 : arg4.IsWhole) (arg5 : Memref sig .tc .vmem S8x128 .f32) (harg5 : arg5.IsWhole)
    (arg6 : Memref sig .tc .vmem S8x128 .i32) (harg6 : arg6.IsWhole) (x0 : Vec Ideal S1x9x512 .f32)

/-- What the point's loop leaves, entered with `acc`. -/
abbrev passed (acc : Vec Ideal S8x128 .f32 × Vec Ideal S8x128 .i32) : Vec Ideal S8x128 .f32 × Vec Ideal S8x128 .i32 :=
  st_k0_t1 (F := Ideal) Variants.none c none i arg3 harg3 arg4 harg4 arg5 harg5 arg6 harg6 (harg3.unread x0) acc 512

/-- The loop over a chunk makes 512 trips. -/
theorem trips_eq : Scf.trips (0#32) (Scalar.addi 0#32 512#32) 1#32 = 512 := by decide +kernel

/-- A pixel tile's first point starts the nearest depth afresh. -/
theorem first_depth (hc0 : cond0_0 i) (hc1 : ¬cond0_1 i) :
    sout0_A_0 c i arg3 harg3 arg4 harg4 arg5 harg5 arg6 harg6 hc0 hc1 x0
      = (passed c i arg3 harg3 arg4 harg4 arg5 harg5 arg6 harg6 x0 (k0_pay3 (F := Ideal), k0_pay4)).1 := by
  unfold sout0_A_0
  rw [View.read_writes_eq_canon _ _ _ (scover0_A_0 c i arg3 harg3 arg4 harg4 arg5 harg5 arg6 harg6 hc0 hc1 x0)]
  unfold kernelRun0_A
  dsimp only
  sl_unfold_words
  rw [View.canon_cons_unit_zero (S := S8x128) hz]
  unfold k0_pay9
  rw [View.readCov_unit_zero (S := S8x128) _ hz, View.readCov_unit_zero (S := S8x128) _ hz, trips_eq, shapeCast_self]

/-- A pixel tile's first point starts the nearest triangle afresh. -/
theorem first_face (hc0 : cond0_0 i) (hc1 : ¬cond0_1 i) :
    sout0_A_1 c i arg3 harg3 arg4 harg4 arg5 harg5 arg6 harg6 hc0 hc1 x0
      = (passed c i arg3 harg3 arg4 harg4 arg5 harg5 arg6 harg6 x0 (k0_pay3 (F := Ideal), k0_pay4)).2 := by
  unfold sout0_A_1
  rw [View.read_writes_eq_canon _ _ _ (scover0_A_1 c i arg3 harg3 arg4 harg4 arg5 harg5 arg6 harg6 hc0 hc1 x0)]
  unfold kernelRun0_A
  dsimp only
  sl_unfold_words
  rw [View.canon_cons_unit_zero (S := S8x128) hz]
  unfold k0_pay10
  rw [View.readCov_unit_zero (S := S8x128) _ hz, View.readCov_unit_zero (S := S8x128) _ hz, trips_eq, shapeCast_self]

/-- A later point carries the nearest depth on. -/
theorem next_depth (hc0 : ¬cond0_0 i) (hc1 : ¬cond0_1 i) (xs0 : Vec Ideal S8x128 .f32) (xs1 : Vec Ideal S8x128 .i32) :
    sout0_B_0 c i arg3 harg3 arg4 harg4 arg5 harg5 arg6 harg6 hc0 hc1 x0 xs0 xs1
      = (passed c i arg3 harg3 arg4 harg4 arg5 harg5 arg6 harg6 x0 (xs0, xs1)).1 := by
  unfold sout0_B_0
  rw [View.read_writes_eq_canon _ _ _ (scover0_B_0 c i arg3 harg3 arg4 harg4 arg5 harg5 arg6 harg6 hc0 hc1 x0 xs0 xs1)]
  unfold kernelRun0_B
  dsimp only
  sl_unfold_words
  rw [View.canon_unit_zero (S := S8x128) hz]
  unfold k0_pay9
  simp only [View.readAt_eq_ld, harg5.read_unread, harg6.read_unread, View.ld_unit_zero (S := S8x128) hz, trips_eq, shapeCast_self]

/-- A later point carries the nearest triangle on. -/
theorem next_face (hc0 : ¬cond0_0 i) (hc1 : ¬cond0_1 i) (xs0 : Vec Ideal S8x128 .f32) (xs1 : Vec Ideal S8x128 .i32) :
    sout0_B_1 c i arg3 harg3 arg4 harg4 arg5 harg5 arg6 harg6 hc0 hc1 x0 xs0 xs1
      = (passed c i arg3 harg3 arg4 harg4 arg5 harg5 arg6 harg6 x0 (xs0, xs1)).2 := by
  unfold sout0_B_1
  rw [View.read_writes_eq_canon _ _ _ (scover0_B_1 c i arg3 harg3 arg4 harg4 arg5 harg5 arg6 harg6 hc0 hc1 x0 xs0 xs1)]
  unfold kernelRun0_B
  dsimp only
  sl_unfold_words
  rw [View.canon_unit_zero (S := S8x128) hz]
  unfold k0_pay10
  simp only [View.readAt_eq_ld, harg5.read_unread, harg6.read_unread, View.ld_unit_zero (S := S8x128) hz, trips_eq, shapeCast_self]

/-- A pixel tile's last point writes the nearest triangle out. -/
theorem last_out (hc0 : ¬cond0_0 i) (hc1 : cond0_1 i) (xs0 : Vec Ideal S8x128 .f32) (xs1 : Vec Ideal S8x128 .i32) :
    out0_C_1 c i arg3 harg3 arg4 harg4 arg5 harg5 arg6 harg6 hc0 hc1 x0 xs0 xs1
      = k0_pay11 (passed c i arg3 harg3 arg4 harg4 arg5 harg5 arg6 harg6 x0 (xs0, xs1)).1 (passed c i arg3 harg3 arg4 harg4 arg5 harg5 arg6 harg6 x0 (xs0, xs1)).2 := by
  unfold out0_C_1
  rw [View.read_writes_eq_canon _ _ _ (cover0_C_1 c i arg3 harg3 arg4 harg4 arg5 harg5 arg6 harg6 hc0 hc1 x0 xs0 xs1)]
  unfold kernelRun0_C
  dsimp only
  sl_unfold_words
  rw [View.canon_unit_zero (S := S1x8x128) hz3]
  simp only [View.readAt_eq_ld, harg5.read_unread, harg6.read_unread, View.ld_unit_zero (S := S8x128) hz, trips_eq]

end Cert.KernelIdeal.Raster
end
-- ==== Proof.Raster.Region.lean ====
/- What the kernel's region leaves in its result: at each pixel, where its walk over the triangles ends. -/
module

public import proofs.«01_k».proof.Proof.Raster.Point

@[expose] public section

set_option maxRecDepth 8192

noncomputable section

namespace Cert.KernelIdeal.Raster

open Idealize.ShloMosaic Idealize.ShloMosaic.TcCoe Idealize.ShloMosaic.Tactic Idealize.SL.Sem Cert.KernelIdeal Cert.KernelIdeal.Gen Cert.Raster
open Idealize.ShloMosaic.Pipeline (Dat)

variable (m : (ℓ : Loc nD τ sig) → Buf (Elt Ideal) ℓ) (c : Dev nD)

/-- The nine numbers of a batch's triangle, as the region finds them. -/
def col (b : Fin 2) (n : ℕ) (a : Fin 9) : EReal :=
  if h : n < 4096 then V0 m c main_v128 (ix3 b a ⟨n, h⟩) else 0

/-- A grid point's batch. -/
theorem coord_batch (t : Fin cfg0.N) : (grid0.coords t 0).val = t.val / 128 % 2 :=
  Pipeline.Grid.coords_val t 0 (by decide) rfl

/-- A grid point's row of tiles. -/
theorem coord_row (t : Fin cfg0.N) : (grid0.coords t 1).val = t.val / 8 % 16 :=
  Pipeline.Grid.coords_val t 1 (by decide) rfl

/-- A grid point's chunk of faces. -/
theorem coord_chunk (t : Fin cfg0.N) : (grid0.coords t 2).val = t.val % 8 :=
  (Pipeline.Grid.coords_val t 2 (S := 1) (B := 8) (by decide) rfl).trans (by rw [Nat.div_one])

/-- A point's input block holds its chunk's columns. -/
theorem block_at (t : Fin cfg0.N) (k : Fin 512) (a : Fin 9) :
    (iblk m c 0 t : Vec Ideal S1x9x512 .f32) (ix3 0 a k) = col m c (grid0.coords t 0) ((grid0.coords t 2).val * 512 + k.val) a := by
  have h2 : (grid0.coords t 2).val < 8 := (grid0.coords t 2).isLt
  have h0 : (grid0.coords t 0).val < 2 := (grid0.coords t 0).isLt
  have hn : (grid0.coords t 2).val * 512 + k.val < 4096 := by omega
  unfold col
  rw [dif_pos hn]
  unfold iblk
  rw [View.read_apply]
  show V m c main_v128 _ = V0 m c main_v128 _
  refine congrArg (V0 m c main_v128) (funext fun d => Fin.ext ?_)
  match d with
  | ⟨0, _⟩ =>
    show (BitVec.ofNat 32 (grid0.coords t 0).val).toNat * 1 + 1 * 0 = (grid0.coords t 0).val
    rw [BitVec.toNat_ofNat, Nat.mod_eq_of_lt (by omega)]; omega
  | ⟨1, _⟩ =>
    show 0 * 9 + 1 * a.val = a.val
    omega
  | ⟨2, _⟩ =>
    show (BitVec.ofNat 32 (grid0.coords t 2).val).toNat * 512 + 1 * k.val = (grid0.coords t 2).val * 512 + k.val
    rw [BitVec.toNat_ofNat, Nat.mod_eq_of_lt (by omega)]; omega

/-- The walk at a pixel of a point's tile. -/
abbrev walkAt (t : Fin cfg0.N) (r : Fin 8) (l : Fin 128) (n : ℕ) : EReal × BitVec 32 :=
  walk (col m c (grid0.coords t 0)) (num l.val) (num ((grid0.coords t 1).val * 8 + r.val)) n

/-- A point's loop, entered where the walk stands before its chunk, ends where it stands after it. -/
theorem passed_at (t : Fin cfg0.N) (arg4 : Memref sig .tc .vmem S1x8x128 .i32) (harg4 : arg4.IsWhole)
    (arg5 : Memref sig .tc .vmem S8x128 .f32) (harg5 : arg5.IsWhole) (arg6 : Memref sig .tc .vmem S8x128 .i32) (harg6 : arg6.IsWhole)
    (acc : Vec Ideal S8x128 .f32 × Vec Ideal S8x128 .i32) (r : Fin 8) (l : Fin 128)
    (hacc : (acc.1 (ix2 r l), acc.2 (ix2 r l)) = walkAt m c t r l (t.val % 8 * 512)) :
    ((passed c (grid0.coords t) (ms0_0 t) (hs0_0 t) arg4 harg4 arg5 harg5 arg6 harg6 (iblk m c 0 t) acc).1 (ix2 r l),
      (passed c (grid0.coords t) (ms0_0 t) (hs0_0 t) arg4 harg4 arg5 harg5 arg6 harg6 (iblk m c 0 t) acc).2 (ix2 r l))
      = walkAt m c t r l (t.val % 8 * 512 + 512) := by
  rw [← coord_chunk t] at hacc ⊢
  refine loop_at c (grid0.coords t) (ms0_0 t) (hs0_0 t) arg4 harg4 arg5 harg5 arg6 harg6 ((hs0_0 t).unread (iblk m c 0 t))
    (col m c (grid0.coords t 0)) (fun k a => ?_) acc r l hacc 512 le_rfl
  rw [(hs0_0 t).read_unread]
  exact block_at m c t k a

/-- A tile's walk goes on at its next point. -/
theorem walkAt_succ (n : ℕ) (hn : n + 1 < cfg0.N) (h0 : ¬(n + 1) % 8 = 0) (r : Fin 8) (l : Fin 128) :
    walkAt m c ⟨n, Nat.lt_of_succ_lt hn⟩ r l (n % 8 * 512 + 512) = walkAt m c ⟨n + 1, hn⟩ r l ((n + 1) % 8 * 512) := by
  have e0 : grid0.coords ⟨n, Nat.lt_of_succ_lt hn⟩ 0 = grid0.coords ⟨n + 1, hn⟩ 0 :=
    Fin.ext (by rw [coord_batch, coord_batch]; dsimp only; omega)
  have e1 : (grid0.coords ⟨n, Nat.lt_of_succ_lt hn⟩ 1).val = (grid0.coords ⟨n + 1, hn⟩ 1).val := by
    rw [coord_row, coord_row]; dsimp only; omega
  have e2 : n % 8 * 512 + 512 = (n + 1) % 8 * 512 := by omega
  unfold walkAt
  rw [e0, e1, e2]

/-- Before a tile's last point the scratch holds where the walk stands. -/
theorem scratch_at (t : Fin cfg0.N) (h7 : ¬t.val % 8 = 7) (r : Fin 8) (l : Fin 128) :
    ((outsAt0 m c t.val t.isLt).2.1 (ix2 r l), (outsAt0 m c t.val t.isLt).2.2 (ix2 r l)) = walkAt m c t r l (t.val % 8 * 512 + 512) := by
  obtain ⟨n, hn⟩ := t
  induction n with
  | zero =>
    rw [outsAt0_A m c ⟨0, hn⟩ rfl h7]
    dsimp only
    rw [first_depth, first_face]
    exact passed_at m c ⟨0, hn⟩ _ _ _ _ _ _ _ r l rfl
  | succ n ih =>
    by_cases h0 : (n + 1) % 8 = 0
    · rw [outsAt0_A m c ⟨n + 1, hn⟩ h0 h7]
      dsimp only
      rw [first_depth, first_face]
      refine passed_at m c ⟨n + 1, hn⟩ _ _ _ _ _ _ _ r l ?_
      dsimp only
      rw [h0]
      rfl
    · have ih := ih (Nat.lt_of_succ_lt hn) (by dsimp only; omega)
      rw [outsAt0_B m c ⟨n + 1, hn⟩ h0 h7]
      dsimp only
      rw [next_depth, next_face]
      refine passed_at m c ⟨n + 1, hn⟩ _ _ _ _ _ _ _ r l (Eq.trans ih ?_)
      exact walkAt_succ m c n hn h0 r l

open scoped Classical in
/-- The triangle the walk ends at: none where no triangle came nearer than the far depth. -/
def found (q : ℕ → Fin 9 → EReal) (px py : EReal) : BitVec 32 :=
  if (walk q px py 4096).1 < far then (walk q px py 4096).2 else 4294967295#32

/-- A tile's last point writes the triangle found at each of its pixels. -/
theorem out_at (t : Fin cfg0.N) (h7 : t.val % 8 = 7) (r : Fin 8) (l : Fin 128) :
    (outsAt0 m c t.val t.isLt).1 (ix3 0 r l)
      = found (col m c (grid0.coords t 0)) (num l.val) (num ((grid0.coords t 1).val * 8 + r.val)) := by
  obtain ⟨n, hn⟩ := t
  have h0 : ¬n % 8 = 0 := by dsimp only at h7; omega
  obtain ⟨n, rfl⟩ : ∃ k, n = k + 1 := ⟨n - 1, by omega⟩
  rw [outsAt0_C m c ⟨n + 1, hn⟩ h0 h7]
  dsimp only
  rw [last_out]
  have hs := scratch_at m c ⟨n, Nat.lt_of_succ_lt hn⟩ (by dsimp only at h7 ⊢; omega) r l
  have hp := passed_at m c ⟨n + 1, hn⟩ (ms0_1 ⟨n + 1, hn⟩) (hs0_1 ⟨n + 1, hn⟩) scM0_0 (Memref.isWhole_whole _) scM0_1 (Memref.isWhole_whole _)
    ((outsAt0 m c n (Nat.lt_of_succ_lt hn)).2.1, (outsAt0 m c n (Nat.lt_of_succ_lt hn)).2.2) r l (hs.trans (walkAt_succ m c n hn h0 r l))
  dsimp only at h7 hp
  rw [h7] at hp
  have hp1 := (Prod.ext_iff.mp hp).1
  have hp2 := (Prod.ext_iff.mp hp).2
  dsimp only at hp1 hp2
  unfold k0_pay11
  pointwise
  exact if_congr (Iff.of_eq (congrArg (· < far) hp1)) hp2 rfl

/-- The triangle found at every pixel. -/
abbrev result : Buf (Elt Ideal) ((c : Thread nD τ).loc main_v129) := fun j : S2x128x128.Idx =>
  found (col m c (j 0)) (num (j 2).val) (num (j 1).val)

/-- What a tile's last point writes back is its block of the triangles found. -/
theorem flushed_eq (t : Fin cfg0.N) (hf : (cfg0.win 1).flush t = true) :
    (dats m 0 c).flushed 1 t = ((cfg0.win 1).blk t).view.read (Elt Ideal) (result m c) := by
  have h7 := (flush0_1 t).mp hf
  show (cfg0.win 1).cut (grid0.coords t) ((dats m 0 c).after 1 t) = _
  rw [after0_1]
  funext y
  rw [View.read_apply]
  have hb : (grid0.coords t 0).val < 2 := (grid0.coords t 0).isLt
  have hr : (grid0.coords t 1).val < 16 := (grid0.coords t 1).isLt
  have y0 : (y 0 : ℕ) < 1 := (y 0).isLt
  have e0 : (((cfg0.win 1).blk t).view.emb y) 0 = grid0.coords t 0 := Fin.ext (by
    show (BitVec.ofNat 32 (grid0.coords t 0).val).toNat * 1 + 1 * (y 0 : ℕ) = (grid0.coords t 0).val
    rw [BitVec.toNat_ofNat, Nat.mod_eq_of_lt (by omega)]; omega)
  have e1 : ((((cfg0.win 1).blk t).view.emb y) 1).val = (grid0.coords t 1).val * 8 + (y 1 : ℕ) := by
    show (BitVec.ofNat 32 (grid0.coords t 1).val).toNat * 8 + 1 * (y 1 : ℕ) = _
    rw [BitVec.toNat_ofNat, Nat.mod_eq_of_lt (by omega)]; omega
  have e2 : ((((cfg0.win 1).blk t).view.emb y) 2).val = (y 2 : ℕ) := by
    show 0 * 128 + 1 * (y 2 : ℕ) = _
    omega
  have ey : y = ix3 (0 : Fin 1) (y 1 : Fin 8) (y 2 : Fin 128) := funext fun d => match d with
    | ⟨0, _⟩ => Fin.ext (by show (y 0 : ℕ) = 0; omega)
    | ⟨1, _⟩ => rfl
    | ⟨2, _⟩ => rfl
  have ho := out_at m c t h7 (y 1 : Fin 8) (y 2 : Fin 128)
  rw [← e1, ← e2, ← e0] at ho
  exact (congrArg (outsAt0 m c t.val t.isLt).1 ey).trans ho

/-- The region's result array ends holding the triangle found at every pixel. -/
theorem final_at : (dats m 0 c).arrAt 1 cfg0.N = result m c :=
  (dats m 0 c).arrAt_eq_of_cover 1 (result m c) (flushed_eq m c) fun j => by
    have h0 : (j 0 : ℕ) < 2 := (j 0).isLt
    have h1 : (j 1 : ℕ) < 128 := (j 1).isLt
    have h2 : (j 2 : ℕ) < 128 := (j 2).isLt
    have hN : cfg0.N = 256 := N_0
    have ht : (j 0 : ℕ) * 128 + (j 1 : ℕ) / 8 * 8 + 7 < cfg0.N := by omega
    refine ⟨⟨(j 0 : ℕ) * 128 + (j 1 : ℕ) / 8 * 8 + 7, ht⟩, (flush0_1 _).mpr (by dsimp only; omega), ?_⟩
    show j ∈ ((View.whole main_v129).slice (win0_1.rect ⟨_, ht⟩)).set
    rw [View.set_slice_whole, Rect.mem_set_unit]
    have c0 := coord_batch ⟨_, ht⟩
    have c1 := coord_row ⟨_, ht⟩
    intro a
    match a with
    | ⟨0, _⟩ =>
      show (BitVec.ofNat 32 (grid0.coords ⟨_, ht⟩ 0).val).toNat * 1 ≤ (j 0 : ℕ) ∧ (j 0 : ℕ) < (BitVec.ofNat 32 (grid0.coords ⟨_, ht⟩ 0).val).toNat * 1 + 1
      rw [c0, BitVec.toNat_ofNat]; dsimp only; omega
    | ⟨1, _⟩ =>
      show (BitVec.ofNat 32 (grid0.coords ⟨_, ht⟩ 1).val).toNat * 8 ≤ (j 1 : ℕ) ∧ (j 1 : ℕ) < (BitVec.ofNat 32 (grid0.coords ⟨_, ht⟩ 1).val).toNat * 8 + 8
      rw [c1, BitVec.toNat_ofNat]; dsimp only; omega
    | ⟨2, _⟩ =>
      show 0 * 128 ≤ (j 2 : ℕ) ∧ (j 2 : ℕ) < 0 * 128 + 128
      omega

end Cert.KernelIdeal.Raster
end
-- ==== Proof.Raster.Quot.lean ====
/- The weights as the reference has them, quotients; at finite coordinates the kernel's affine functions are those quotients. -/
module

public import proofs.«01_k».proof.Proof.Raster.Tri

@[expose] public section

noncomputable section

namespace Cert.Raster

open Idealize.ShloMosaic

/-- The first weight at a pixel. -/
def rw0 (t : Tri) (px py : EReal) : EReal :=
  Ideal.div ((t 1 1 - t 2 1) * (px - t 2 0) + (t 2 0 - t 1 0) * (py - t 2 1)) (den' t)

/-- The second weight at a pixel. -/
def rw1 (t : Tri) (px py : EReal) : EReal :=
  Ideal.div ((t 2 1 - t 0 1) * (px - t 2 0) + (t 0 0 - t 2 0) * (py - t 2 1)) (den' t)

/-- The third weight at a pixel. -/
def rw2 (t : Tri) (px py : EReal) : EReal := 1 - rw0 t px py - rw1 t px py

/-- The depth of a triangle at a pixel. -/
def rd (t : Tri) (px py : EReal) : EReal := rw0 t px py * t 0 2 + rw1 t px py * t 1 2 + rw2 t px py * t 2 2

/-- Whether a triangle covers a pixel. -/
def rin (t : Tri) (px py : EReal) : Prop := (0 ≤ rw0 t px py ∧ 0 ≤ rw1 t px py) ∧ 0 ≤ rw2 t px py

open scoped Classical in
/-- The depth a triangle offers at a pixel: its own where it covers the pixel, the background's elsewhere. -/
def offer (t : Tri) (px py : EReal) : EReal := if rin t px py then rd t px py else far

/-- An image coordinate is a real number. -/
abbrev Finite (t : Tri) : Prop := ∀ v, ∃ x y : ℝ, t v 0 = (x : EReal) ∧ t v 1 = (y : EReal)

/-- The least area that divides, as a real number. -/
theorem eps_eq : eps = ((11258999 / 2 ^ 50 : ℝ) : EReal) := by
  simp [eps, Ideal.ofBits, Ideal.ieee, -EReal.coe_mul]; norm_num

/-- The least area that divides is positive. -/
theorem eps_pos : ∃ e : ℝ, 0 < e ∧ eps = (e : EReal) := ⟨_, by positivity, eps_eq⟩

/-- The dividing area of a triangle with real coordinates is a real number other than zero. -/
theorem den'_real (t : Tri) (h : Finite t) : ∃ d : ℝ, d ≠ 0 ∧ den' t = (d : EReal) := by
  obtain ⟨e, he, hE⟩ := eps_pos
  obtain ⟨x0, y0, hx0, hy0⟩ := h 0
  obtain ⟨x1, y1, hx1, hy1⟩ := h 1
  obtain ⟨x2, y2, hx2, hy2⟩ := h 2
  have hd : den t = (((y1 - y2) * (x0 - x2) + (x2 - x1) * (y0 - y2) : ℝ) : EReal) := by
    unfold den
    rw [hx0, hy0, hx1, hy1, hx2, hy2]
    push_cast
    rfl
  unfold den'
  split
  · exact ⟨e, he.ne', hE⟩
  · rename_i hn
    refine ⟨_, fun h0 => hn ?_, hd⟩
    rw [hd, h0, hE]
    simpa using he

/-- Dividing first and weighing the pixel afterwards is weighing it first and dividing afterwards. -/
theorem affine (a b x y d u v : ℝ) (hd : d ≠ 0) :
    (a : EReal) * Ideal.div 1 (d : EReal) * (u : EReal) + ((b : EReal) * Ideal.div 1 (d : EReal) * (v : EReal)
        + (-((a : EReal) * Ideal.div 1 (d : EReal) * (x : EReal)) - (b : EReal) * Ideal.div 1 (d : EReal) * (y : EReal)))
      = Ideal.div ((a : EReal) * ((u : EReal) - (x : EReal)) + (b : EReal) * ((v : EReal) - (y : EReal))) (d : EReal) := by
  rw [Ideal.div_coe hd, Ideal.div_coe hd, one_mul]
  norm_cast
  ring_nf

/-- The kernel's first weight of a triangle with real coordinates is the quotients'. -/
theorem kw0_eq (t : Tri) (h : Finite t) (u v : ℕ) : kw0 (coef t) (num u) (num v) = rw0 t (num u) (num v) := by
  obtain ⟨d, hd, hD⟩ := den'_real t h
  obtain ⟨x0, y0, hx0, hy0⟩ := h 0
  obtain ⟨x1, y1, hx1, hy1⟩ := h 1
  obtain ⟨x2, y2, hx2, hy2⟩ := h 2
  show (t 1 1 - t 2 1) * Ideal.div 1 (den' t) * num u + ((t 2 0 - t 1 0) * Ideal.div 1 (den' t) * num v
    + (-((t 1 1 - t 2 1) * Ideal.div 1 (den' t) * t 2 0) - (t 2 0 - t 1 0) * Ideal.div 1 (den' t) * t 2 1)) = _
  unfold rw0 num
  rw [hD, hx1, hy1, hx2, hy2, ← EReal.coe_sub, ← EReal.coe_sub]
  exact affine _ _ _ _ _ _ _ hd

/-- The kernel's second weight of a triangle with real coordinates is the quotients'. -/
theorem kw1_eq (t : Tri) (h : Finite t) (u v : ℕ) : kw1 (coef t) (num u) (num v) = rw1 t (num u) (num v) := by
  obtain ⟨d, hd, hD⟩ := den'_real t h
  obtain ⟨x0, y0, hx0, hy0⟩ := h 0
  obtain ⟨x2, y2, hx2, hy2⟩ := h 2
  show (t 2 1 - t 0 1) * Ideal.div 1 (den' t) * num u + ((t 0 0 - t 2 0) * Ideal.div 1 (den' t) * num v
    + (-((t 2 1 - t 0 1) * Ideal.div 1 (den' t) * t 2 0) - (t 0 0 - t 2 0) * Ideal.div 1 (den' t) * t 2 1)) = _
  unfold rw1 num
  rw [hD, hx0, hy0, hx2, hy2, ← EReal.coe_sub, ← EReal.coe_sub]
  exact affine _ _ _ _ _ _ _ hd

/-- The kernel's third weight of a triangle with real coordinates is the quotients'. -/
theorem kw2_eq (t : Tri) (h : Finite t) (u v : ℕ) : kw2 (coef t) (num u) (num v) = rw2 t (num u) (num v) := by
  unfold kw2 rw2
  rw [kw0_eq t h, kw1_eq t h]

/-- The kernel's coverage of a triangle with real coordinates is the quotients'. -/
theorem kin_eq (t : Tri) (h : Finite t) (u v : ℕ) : kin (coef t) (num u) (num v) = rin t (num u) (num v) := by
  unfold kin rin
  rw [kw0_eq t h, kw1_eq t h, kw2_eq t h]

/-- The kernel's depth of a triangle with real coordinates is the quotients'. -/
theorem kd_eq (t : Tri) (h : Finite t) (u v : ℕ) : kd (coef t) (num u) (num v) = rd t (num u) (num v) := by
  unfold kd rd
  rw [kw0_eq t h, kw1_eq t h, kw2_eq t h]
  rfl

/-- A padding column covers no pixel: its first weight is negative there. -/
theorem pad_out (u v : ℕ) : ¬kin padNum (num u) (num v) := by
  intro h
  have h0 := h.1.1
  have e : kw0 padNum (num u) (num v) = ((-1 : ℝ) : EReal) := by
    show Ideal.ofBits .f32 0#32 * num u + (Ideal.ofBits .f32 0#32 * num v + Ideal.ofBits .f32 3212836864#32) = _
    rw [show Ideal.ofBits .f32 0#32 = 0 by simp [Ideal.ofBits, Ideal.ieee], zero_mul, zero_mul, zero_add, zero_add]
    simp [Ideal.ofBits, Ideal.ieee, -EReal.coe_mul, -EReal.coe_neg]; norm_num
  rw [e] at h0
  have : (0 : ℝ) ≤ -1 := by exact_mod_cast h0
  linarith

end Cert.Raster
end
-- ==== Proof.Raster.Weights.lean ====
/- The reference's weights and depth of a triangle at a pixel. -/
module

public import proofs.«01_k».proof.Proof.Gen.ReferenceIdeal.Read
public import proofs.«01_k».proof.Proof.Raster.Words
public import proofs.«01_k».proof.Proof.Raster.Quot
public import Idealize.ShloMosaic.Lib.Pointwise

@[expose] public section

set_option maxRecDepth 8192

noncomputable section

namespace Cert.ReferenceIdeal.Raster

open Idealize.ShloMosaic Idealize.ShloMosaic.Tactic Cert.ReferenceIdeal Cert.ReferenceIdeal.Gen Cert.ReferenceIdeal.Read Cert.Raster

variable (x0 : (⟨S2x2000x3, .f32⟩ : BufTy).Contents (Elt Ideal)) (x1 : (⟨S2x4000x3, .i32⟩ : BufTy).Contents (Elt Ideal))

/-- A choice by three joined comparisons. -/
theorem select_three {α : Type} (a b c : Prop) [Decidable a] [Decidable b] [Decidable c] (x y : α) :
    Scalar.select (IntOp.andi (IntOp.andi (BitVec.ofBool (decide a)) (BitVec.ofBool (decide b))) (BitVec.ofBool (decide c))) x y
      = if (a ∧ b) ∧ c then x else y := by
  by_cases ha : a <;> by_cases hb : b <;> by_cases hc : c <;> simp only [ha, hb, hc] <;> rfl

/-- The corners of a face, as the reference gathers them. -/
abbrev triOf (b : Fin 2) (f : Fin 4000) : Tri := fun v a => val_main_v66 (F := Ideal) x0 x1 (ix4 b f v a)

/-- A pixel's column. -/
theorem px_at (p : Fin 16384) : val_main_v72 (F := Ideal) (ix3 0 0 p) = num (p.val % 128) := by
  unfold val_main_v72 val_main_v71 val_main_v70 val_main_v68
  pointwise
  exact num_word _ (by omega)

/-- A pixel's row. -/
theorem py_at (p : Fin 16384) : val_main_v74 (F := Ideal) (ix3 0 0 p) = num (p.val / 128) := by
  unfold val_main_v74 val_main_v73 val_main_v69 val_main_v67
  pointwise
  exact num_word _ (by omega)

/-- The area that divides. -/
theorem den_at (b : Fin 2) (f : Fin 4000) : val_main_v103 (F := Ideal) x0 x1 (ix3 b f 0) = den' (triOf x0 x1 b f) := by
  unfold val_main_v103 val_main_call0_v1 val_main_call0_v0 val_main_v102 val_main_v101 val_main_v100 val_main_v99 val_main_v98 val_main_v97 val_main_v96 val_main_v95 val_main_v94 val_main_v93
  unfold val_main_v90 val_main_v88 val_main_v84 val_main_v82 val_main_v78 val_main_v76
  unfold val_main_v89 val_main_v87 val_main_v83 val_main_v81 val_main_v77 val_main_v75
  pointwise
  rfl

/-- The first weight. -/
theorem w0_at (b : Fin 2) (f : Fin 4000) (p : Fin 16384) :
    val_main_v118 (F := Ideal) x0 x1 (ix3 b f p) = rw0 (triOf x0 x1 b f) (num (p.val % 128)) (num (p.val / 128)) := by
  unfold val_main_v118 val_main_v117 val_main_v116 val_main_v115 val_main_v114 val_main_v113 val_main_v112 val_main_v111 val_main_v110 val_main_v109 val_main_v108 val_main_v107 val_main_v106 val_main_v105 val_main_v104
  unfold val_main_v90 val_main_v88 val_main_v84 val_main_v82
  unfold val_main_v89 val_main_v87 val_main_v83 val_main_v81
  pointwise [px_at, py_at, den_at]
  rfl

/-- The second weight. -/
theorem w1_at (b : Fin 2) (f : Fin 4000) (p : Fin 16384) :
    val_main_v133 (F := Ideal) x0 x1 (ix3 b f p) = rw1 (triOf x0 x1 b f) (num (p.val % 128)) (num (p.val / 128)) := by
  unfold val_main_v133 val_main_v132 val_main_v131 val_main_v130 val_main_v129 val_main_v128 val_main_v127 val_main_v126 val_main_v125 val_main_v124 val_main_v123 val_main_v122 val_main_v121 val_main_v120 val_main_v119
  unfold val_main_v90 val_main_v88 val_main_v78 val_main_v76
  unfold val_main_v89 val_main_v87 val_main_v77 val_main_v75
  pointwise [px_at, py_at, den_at]
  rfl

/-- The third weight. -/
theorem w2_at (b : Fin 2) (f : Fin 4000) (p : Fin 16384) :
    val_main_v136 (F := Ideal) x0 x1 (ix3 b f p) = rw2 (triOf x0 x1 b f) (num (p.val % 128)) (num (p.val / 128)) := by
  unfold val_main_v136 val_main_v135 val_main_v134 val_main_cst_26
  pointwise [w0_at, w1_at]
  rfl

/-- The depth a face offers. -/
theorem offer_at (b : Fin 2) (f : Fin 4000) (p : Fin 16384) :
    val_main_v153 (F := Ideal) x0 x1 (ix3 b f p) = offer (triOf x0 x1 b f) (num (p.val % 128)) (num (p.val / 128)) := by
  unfold val_main_v153 val_main_call1_v1 val_main_call1_v0 val_main_cst_30 val_main_v152 val_main_v151 val_main_v150 val_main_v149 val_main_v148 val_main_v147 val_main_v146 val_main_v145 val_main_v144 val_main_v143 val_main_v142 val_main_cst_29 val_main_v141 val_main_v140 val_main_v139 val_main_cst_28 val_main_v138 val_main_v137 val_main_cst_27
  unfold val_main_v92 val_main_v86 val_main_v80
  unfold val_main_v91 val_main_v85 val_main_v79
  pointwise [w0_at, w1_at, w2_at]
  classical
  exact (select_three ..).trans (if_congr Iff.rfl rfl rfl)

end Cert.ReferenceIdeal.Raster
end
-- ==== Proof.Raster.Pick.lean ====
/- The reference's nearest face at a pixel: the least depth offered, and the first face that offers it. -/
module

public import proofs.«01_k».proof.Proof.Raster.Weights

@[expose] public section

set_option maxRecDepth 8192

noncomputable section

namespace Cert.Raster

open Idealize.ShloMosaic

/-- Face `j` is the first of those that offer the least depth. -/
structure Nearest (D : Fin 4000 → EReal) (j : Fin 4000) : Prop where
  least : ∀ f, D j ≤ D f
  first : ∀ f < j, D j < D f

/-- The least of finitely many offers is one of them. -/
theorem fold_min_spec (D : Fin 4000 → EReal) :
    (∀ f, Finset.univ.fold min ⊤ D ≤ D f) ∧ ∃ f, D f = Finset.univ.fold min ⊤ D := by
  have hle : ∀ f, Finset.univ.fold min ⊤ D ≤ D f := fun f => ((Finset.le_fold_min (s := Finset.univ) _).mp le_rfl).2 f (Finset.mem_univ f)
  refine ⟨hle, ?_⟩
  rcases (Finset.fold_min_le (s := Finset.univ) (b := (⊤ : EReal)) (f := D) _).mp le_rfl with h | ⟨f, -, h⟩
  · exact ⟨0, le_antisymm (le_trans le_top h) (hle 0)⟩
  · exact ⟨f, le_antisymm h (hle f)⟩

/-- The least of two signed words is the word of the least number. -/
theorem minsi_toInt (x y : BitVec 32) : (IntOp.minsi x y).toInt = min x.toInt y.toInt := by
  simp only [IntOp.minsi]
  split
  · next h => exact (min_eq_left (le_of_lt (by simpa [BitVec.slt] using h))).symm
  · next h => exact (min_eq_right (by simp [BitVec.slt] at h; omega)).symm

open scoped Classical in
/-- The least number of the faces that offer the least depth, in words. -/
theorem fold_first (D : Fin 4000 → EReal) (n : EReal) (hn : ∀ f, n ≤ D f) (hm : ∃ f, D f = n) :
    ∃ j, D j = n ∧ Nearest D j ∧
      Finset.univ.fold IntOp.minsi 2147483647#32 (fun f : Fin 4000 => if D f = n then BitVec.ofNat 32 f.val else 4000#32) = BitVec.ofNat 32 j.val := by
  set g := fun f : Fin 4000 => if D f = n then BitVec.ofNat 32 f.val else 4000#32 with hg
  have e := Finset.fold_hom (op := IntOp.minsi) (op' := min) (m := BitVec.toInt) (s := (Finset.univ : Finset (Fin 4000))) (f := g) (b := 2147483647#32) minsi_toInt
  obtain ⟨f, hf⟩ := hm
  have gi : ∀ f, (g f).toInt = if D f = n then (f.val : ℤ) else 4000 := fun f => by
    rw [hg]
    dsimp only
    split
    · exact toInt_word _ (by omega)
    · rfl
  set v := Finset.univ.fold IntOp.minsi 2147483647#32 g with hv
  have lo : ∀ f, v.toInt ≤ (g f).toInt := fun f => by
    rw [← e]; exact ((Finset.le_fold_min (s := Finset.univ) _).mp le_rfl).2 f (Finset.mem_univ f)
  have hi := (Finset.fold_min_le (s := Finset.univ) (b := (2147483647#32 : BitVec 32).toInt) (f := fun f => (g f).toInt) _).mp (le_of_eq e)
  have h4 : v.toInt < 4000 := by
    have := lo f
    rw [gi, if_pos hf] at this
    omega
  rcases hi with h | ⟨j, -, h⟩
  · have : (2147483647#32 : BitVec 32).toInt = 2147483647 := by decide
    omega
  · have ej : v.toInt = (g j).toInt := le_antisymm (lo j) h
    have hj : D j = n := by
      by_contra hc
      rw [gi, if_neg hc] at ej
      omega
    rw [gi, if_pos hj] at ej
    refine ⟨j, hj, ⟨fun f => hj ▸ hn f, fun f hlt => ?_⟩, ?_⟩
    · rw [hj]
      refine lt_of_le_of_ne (hn f) fun hc => ?_
      have := lo f
      rw [gi, if_pos hc.symm, ej] at this
      have : j.val ≤ f.val := by exact_mod_cast this
      exact absurd hlt (not_lt.mpr this)
    · exact BitVec.eq_of_toInt_eq (ej.trans (toInt_word _ (by omega)).symm)

end Cert.Raster

namespace Cert.ReferenceIdeal.Raster

open Idealize.ShloMosaic Idealize.ShloMosaic.Tactic Cert.ReferenceIdeal Cert.ReferenceIdeal.Gen Cert.ReferenceIdeal.Read Cert.Raster

variable (x0 : (⟨S2x2000x3, .f32⟩ : BufTy).Contents (Elt Ideal)) (x1 : (⟨S2x4000x3, .i32⟩ : BufTy).Contents (Elt Ideal))

/-- The depths offered at a pixel. -/
abbrev offers (b : Fin 2) (p : Fin 16384) : Fin 4000 → EReal := fun f => offer (triOf x0 x1 b f) (num (p.val % 128)) (num (p.val / 128))

/-- The faces' axis can be reduced away. -/
theorem reduces : S2x4000x16384.Reduces [1] S2x16384 := by decide

/-- The entry of a face at a pixel. -/
theorem lift_at (b : Fin 2) (p : Fin 16384) (f : Fin 4000) : reduces.lift (ix2 b p) f = ix3 b f p := by
  funext d
  match d with
  | ⟨0, _⟩ => rfl
  | ⟨1, _⟩ => rfl
  | ⟨2, _⟩ => rfl

/-- The least depth at a pixel is the least of the depths offered. -/
theorem near_at (b : Fin 2) (p : Fin 16384) : val_main_v154 (F := Ideal) x0 x1 (ix2 b p) = Finset.univ.fold min ⊤ (offers x0 x1 b p) := by
  unfold val_main_v154
  rw [Host.reduce_eq_fold_single FloatOps.minimumf _ _ _ reduces]
  have hf : (val_main_v153 (F := Ideal) x0 x1 ∘ reduces.lift (ix2 b p)) = offers x0 x1 b p := funext fun f => by
    exact (congrArg (val_main_v153 (F := Ideal) x0 x1) (lift_at b p f)).trans (offer_at x0 x1 b f p)
  rw [hf]
  refine congrArg (fun z => Finset.fold min z (offers x0 x1 b p) Finset.univ) ?_
  simp [val_main_cst_31, constant, FloatOps.ofBits, Ideal.ofBits, Ideal.ieee]

open scoped Classical in
theorem cand_at (b : Fin 2) (f : Fin 4000) (p : Fin 16384) : val_main_v159 (F := Ideal) x0 x1 (ix3 b f p)
    = if offers x0 x1 b p f = val_main_v154 (F := Ideal) x0 x1 (ix2 b p) then BitVec.ofNat 32 f.val else 4000#32 := by
  unfold val_main_v159 val_main_call2_v1 val_main_call2_v0 val_main_c_32 val_main_v158 val_main_v157 val_main_v156 val_main_v155
  pointwise [offer_at]
  rfl

/-- The face number picked at a pixel is that of the first face that offers the least depth. -/
theorem pick_at (b : Fin 2) (p : Fin 16384) : ∃ j : Fin 4000, Nearest (offers x0 x1 b p) j ∧ val_main_v160 (F := Ideal) x0 x1 (ix2 b p) = BitVec.ofNat 32 j.val := by
  classical
  have hs := fold_min_spec (offers x0 x1 b p)
  rw [← near_at] at hs
  obtain ⟨j, -, hj, e⟩ := fold_first _ _ hs.1 hs.2
  refine ⟨j, hj, ?_⟩
  unfold val_main_v160
  rw [Host.reduce_eq_fold_single IntOp.minsi _ _ _ reduces]
  have hf : (val_main_v159 (F := Ideal) x0 x1 ∘ reduces.lift (ix2 b p)) = _ := funext fun f =>
    (congrArg (val_main_v159 (F := Ideal) x0 x1) (lift_at b p f)).trans (cand_at x0 x1 b f p)
  rw [hf]
  exact e

end Cert.ReferenceIdeal.Raster
end
-- ==== Proof.Raster.Agree.lean ====
/- The kernel's walk over the faces ends at the first face of least depth, where that depth is near enough. -/
module

public import proofs.«01_k».proof.Proof.Raster.Region
public import proofs.«01_k».proof.Proof.Raster.Pick

@[expose] public section

set_option maxRecDepth 8192

noncomputable section

namespace Cert.Raster

open Idealize.ShloMosaic

variable (q : ℕ → Fin 9 → EReal) (px py : EReal)

/-- The walk's depth is no more than any passed face's, nor the background's. -/
theorem walk_le (n : ℕ) : (walk q px py n).1 ≤ far ∧ ∀ f < n, kin (q f) px py → (walk q px py n).1 ≤ kd (q f) px py := by
  classical
  induction n with
  | zero => exact ⟨le_rfl, fun f hf => absurd hf (Nat.not_lt_zero f)⟩
  | succ n ih =>
    rw [walk]
    split
    · next h =>
      refine ⟨h.2.le.trans ih.1, fun f hf hk => ?_⟩
      rcases Nat.lt_succ_iff_lt_or_eq.mp hf with h' | h'
      · exact h.2.le.trans (ih.2 f h' hk)
      · rw [h']
    · next h =>
      refine ⟨ih.1, fun f hf hk => ?_⟩
      rcases Nat.lt_succ_iff_lt_or_eq.mp hf with h' | h'
      · exact ih.2 f h' hk
      · subst h'
        exact not_lt.mp fun hc => h ⟨hk, hc⟩

/-- The walk holds the background's depth, or a face that is strictly nearer than each before it. -/
theorem walk_at (n : ℕ) : (walk q px py n).1 = far ∨ ∃ i < n, (walk q px py n).2 = BitVec.ofNat 32 i ∧ kin (q i) px py ∧ kd (q i) px py = (walk q px py n).1
    ∧ ∀ f < i, kin (q f) px py → (walk q px py n).1 < kd (q f) px py := by
  classical
  induction n with
  | zero => exact Or.inl rfl
  | succ n ih =>
    rw [walk]
    split
    · next h => exact Or.inr ⟨n, Nat.lt_succ_self n, rfl, h.1, rfl, fun f hf hk => h.2.trans_le ((walk_le q px py n).2 f hf hk)⟩
    · rcases ih with h | ⟨i, hi, h⟩
      · exact Or.inl h
      · exact Or.inr ⟨i, hi.trans (Nat.lt_succ_self n), h⟩

open scoped Classical in
/-- The walk finds the first face of least depth, where that depth is less than the background's. -/
theorem found_eq (u v : ℕ) (t : Fin 4000 → Tri) (ht : ∀ f, Finite (t f)) (hq : ∀ f : Fin 4000, q f.val = coef (t f))
    (hp : ∀ n, 4000 ≤ n → n < 4096 → q n = padNum) (j : Fin 4000) (hj : Nearest (fun f => offer (t f) (num u) (num v)) j) :
    Cert.KernelIdeal.Raster.found q (num u) (num v) = if offer (t j) (num u) (num v) < far then BitVec.ofNat 32 j.val else 4294967295#32 := by
  have kin_iff : ∀ f : Fin 4000, kin (q f.val) (num u) (num v) ↔ rin (t f) (num u) (num v) := fun f => by rw [hq, kin_eq _ (ht f)]
  have offer_in : ∀ f : Fin 4000, kin (q f.val) (num u) (num v) → offer (t f) (num u) (num v) = kd (q f.val) (num u) (num v) := fun f h => by
    rw [offer, if_pos ((kin_iff f).mp h), hq, kd_eq _ (ht f)]
  have in_list : ∀ i < 4096, kin (q i) (num u) (num v) → i < 4000 := fun i hi h => by
    by_contra hc
    rw [hp i (not_lt.mp hc) hi] at h
    exact pad_out u v h
  obtain ⟨-, wl⟩ := walk_le q (num u) (num v) 4096
  have wa := walk_at q (num u) (num v) 4096
  unfold Cert.KernelIdeal.Raster.found
  generalize walk q (num u) (num v) 4096 = w at wl wa ⊢
  by_cases h : offer (t j) (num u) (num v) < far
  · have hin : kin (q j.val) (num u) (num v) := by
      by_contra hc
      rw [offer, if_neg fun hr => hc ((kin_iff j).mpr hr)] at h
      exact lt_irrefl _ h
    have hle : w.1 ≤ offer (t j) (num u) (num v) := (wl j.val (by omega) hin).trans_eq (offer_in j hin).symm
    rw [if_pos h, if_pos (hle.trans_lt h)]
    rcases wa with hw | ⟨i, hi, e, hk, hd, hb⟩
    · exact absurd (hle.trans_lt h) (hw ▸ lt_irrefl _)
    · have hi' := in_list i hi hk
      have hd' := (offer_in ⟨i, hi'⟩ hk).trans hd
      have hw : w.1 = offer (t j) (num u) (num v) := le_antisymm hle ((hj.least ⟨i, hi'⟩).trans_eq hd')
      rw [e]
      rcases lt_trichotomy i j.val with hlt | heq | hgt
      · exact absurd (hj.first ⟨i, hi'⟩ hlt) (by rw [hd', hw]; exact lt_irrefl _)
      · rw [heq]
      · exact absurd (hb j.val hgt hin) (by rw [hw, ← offer_in j hin]; exact lt_irrefl _)
  · rw [if_neg h, if_neg]
    intro hc
    rcases wa with hw | ⟨i, hi, e, hk, hd, hb⟩
    · exact absurd hc (hw ▸ lt_irrefl _)
    · have hi' := in_list i hi hk
      have hd' := (offer_in ⟨i, hi'⟩ hk).trans hd
      exact h ((hj.least ⟨i, hi'⟩).trans_lt (by rw [hd']; exact hc))

end Cert.Raster
end
-- ==== Proof.Raster.Gather.lean ====
/- The gathers of the two programs, at an index. -/
module

public import proofs.«01_k».proof.Proof.Gen.KernelIdeal
public import proofs.«01_k».proof.Proof.Gen.ReferenceIdeal
public import Idealize.ShloMosaic.Lib.Pointwise

@[expose] public section

set_option maxRecDepth 8192

noncomputable section

namespace Cert.Raster

open Idealize.ShloMosaic

variable {α : Type}

/-- A column of the coefficient array: its number is read signed and clamped. -/
theorem gather_coef (X : Cert.KernelIdeal.S2x9x4096.Idx → α) (idx : IVec Cert.KernelIdeal.S2x16384x1 32) (b : Fin 2) (k : Fin 9) (p : Fin 16384) :
    Host.gather Cert.KernelIdeal.gather_S2x9x4096_S2x16384x1_S2x9x16384_1_2_0_0_2_2_191 X idx (ix3 b k p)
      = X (ix3 b k ⟨min (idx (ix3 b p 0)).toInt.toNat 4095, by omega⟩) := by
  have e : Cert.KernelIdeal.gather_S2x9x4096_S2x16384x1_S2x9x16384_1_2_0_0_2_2_191.siIdx (ix3 b k p) ⟨0, by decide⟩ = ix3 b p 0 :=
    funext fun c => match c with | 0 => rfl | 1 => rfl | 2 => rfl
  refine congrArg X (funext fun a => Fin.ext ?_)
  match a with
  | 0 => exact (Nat.zero_add _).trans rfl
  | 1 => exact (Nat.zero_add _).trans rfl
  | 2 => exact congrArg (fun i => min (idx i).toInt.toNat 4095) e

/-- A row of an image's attributes: its number is read signed and clamped. -/
theorem gather_attr (X : Cert.KernelIdeal.S2x4000x9.Idx → α) (idx : IVec Cert.KernelIdeal.S2x16384x1 32) (b : Fin 2) (p : Fin 16384) (k : Fin 9) :
    Host.gather Cert.KernelIdeal.gather_S2x4000x9_S2x16384x1_S2x16384x9_2_1_0_0_1_2_119 X idx (ix3 b p k)
      = X (ix3 b ⟨min (idx (ix3 b p 0)).toInt.toNat 3999, by omega⟩ k) := by
  have e : Cert.KernelIdeal.gather_S2x4000x9_S2x16384x1_S2x16384x9_2_1_0_0_1_2_119.siIdx (ix3 b p k) ⟨0, by decide⟩ = ix3 b p 0 :=
    funext fun c => match c with | 0 => rfl | 1 => rfl | 2 => rfl
  refine congrArg X (funext fun a => Fin.ext ?_)
  match a with
  | 0 => exact (Nat.zero_add _).trans rfl
  | 1 => exact congrArg (fun i => min (idx i).toInt.toNat 3999) e
  | 2 => exact (Nat.zero_add _).trans rfl

/-- A corner: some vertex of the image, at the same coordinate. -/
theorem gather_corner (X : Cert.ReferenceIdeal.S2x2000x3.Idx → α) (idx : IVec Cert.ReferenceIdeal.S2x4000x3x1 32) (b : Fin 2) (f : Fin 4000) (v a : Fin 3) :
    ∃ n : Fin 2000, Host.gather Cert.ReferenceIdeal.gather_S2x2000x3_S2x4000x3x1_S2x4000x3x3_3_1_0_0_1_3_113 X idx (ix4 b f v a) = X (ix3 b n a) := by
  refine ⟨Cert.ReferenceIdeal.gather_S2x2000x3_S2x4000x3x1_S2x4000x3x3_3_1_0_0_1_3_113.operandIdx (ix4 b f v a) idx 1,
    congrArg X (funext fun c => Fin.ext ?_)⟩
  match c with
  | 0 => exact (Nat.zero_add _).trans rfl
  | 1 => rfl
  | 2 => exact (Nat.zero_add _).trans rfl

/-- A value of the face whose number each pixel has: the number is read signed and clamped. -/
theorem gather_along (X : Cert.ReferenceIdeal.S2x4000x16384.Idx → α) (idx : IVec Cert.ReferenceIdeal.S2x1x16384x1 32) (b : Fin 2) (u : Fin 1) (p : Fin 16384) :
    Host.gather Cert.ReferenceIdeal.gather_S2x4000x16384_S2x1x16384x1_S2x1x16384_n_1_02_02_1_3_111 X idx (ix3 b u p)
      = X (ix3 b ⟨min (idx (ix4 b u p 0)).toInt.toNat 3999, by omega⟩ p) := by
  have e : Cert.ReferenceIdeal.gather_S2x4000x16384_S2x1x16384x1_S2x1x16384_n_1_02_02_1_3_111.siIdx (ix3 b u p) ⟨0, by decide⟩ = ix4 b u p 0 :=
    funext fun c => match c with | 0 => rfl | 1 => rfl | 2 => rfl | 3 => rfl
  refine congrArg X (funext fun a => Fin.ext ?_)
  match a with
  | 0 => exact (Nat.zero_add _).trans rfl
  | 1 => exact congrArg (fun i => min (idx i).toInt.toNat 3999) e
  | 2 => exact (Nat.zero_add _).trans rfl

/-- A face's attributes in the list of all images' faces: its number is read signed and clamped. -/
theorem gather_take (X : Cert.ReferenceIdeal.S8000x3x3.Idx → α) (idx : IVec Cert.ReferenceIdeal.S32768x1 32) (n : Fin 32768) (v a : Fin 3) :
    Host.gather Cert.ReferenceIdeal.gather_S8000x3x3_S32768x1_S32768x3x3_12_0_n_n_0_1_133 X idx (ix3 n v a)
      = X (ix3 ⟨min (idx (ix2 n 0)).toInt.toNat 7999, by omega⟩ v a) := by
  have e : Cert.ReferenceIdeal.gather_S8000x3x3_S32768x1_S32768x3x3_12_0_n_n_0_1_133.siIdx (ix3 n v a) ⟨0, by decide⟩ = ix2 n 0 :=
    funext fun c => match c with | 0 => rfl | 1 => rfl
  refine congrArg X (funext fun c => Fin.ext ?_)
  match c with
  | 0 => exact congrArg (fun i => min (idx i).toInt.toNat 7999) e
  | 1 => exact (Nat.zero_add _).trans rfl
  | 2 => exact (Nat.zero_add _).trans rfl

end Cert.Raster
end
-- ==== Proof.Raster.Real.lean ====
/- The precondition makes every triangle's image coordinates real numbers. -/
module

public import proofs.«01_k».proof.Proof.Raster.Weights
public import proofs.«01_k».proof.Proof.Raster.Gather
public import proofs.«01_k».proof.Pre_xy_finite

@[expose] public section

set_option maxRecDepth 8192

noncomputable section

namespace Cert.Raster

open Idealize.ShloMosaic

/-- A real number among the extended ones. -/
def IsReal (a : EReal) : Prop := ∃ r : ℝ, a = (r : EReal)

/-- Real numbers are closed under sums. -/
theorem IsReal.add {a b : EReal} (ha : IsReal a) (hb : IsReal b) : IsReal (a + b) := by
  obtain ⟨x, rfl⟩ := ha; obtain ⟨y, rfl⟩ := hb; exact ⟨x + y, by push_cast; rfl⟩

/-- Real numbers are closed under differences. -/
theorem IsReal.sub {a b : EReal} (ha : IsReal a) (hb : IsReal b) : IsReal (a - b) := by
  obtain ⟨x, rfl⟩ := ha; obtain ⟨y, rfl⟩ := hb; exact ⟨x - y, by push_cast; rfl⟩

/-- Real numbers are closed under products. -/
theorem IsReal.mul {a b : EReal} (ha : IsReal a) (hb : IsReal b) : IsReal (a * b) := by
  obtain ⟨x, rfl⟩ := ha; obtain ⟨y, rfl⟩ := hb; exact ⟨x * y, by push_cast; rfl⟩

/-- Real numbers are closed under negation. -/
theorem IsReal.neg {a : EReal} (ha : IsReal a) : IsReal (-a) := by
  obtain ⟨x, rfl⟩ := ha; exact ⟨-x, by push_cast; rfl⟩

/-- Real numbers are closed under division by one other than zero. -/
theorem IsReal.div {a b : EReal} (ha : IsReal a) (hb : ∃ r : ℝ, r ≠ 0 ∧ b = (r : EReal)) : IsReal (Ideal.div a b) := by
  obtain ⟨y, hy, rfl⟩ := hb; rw [Ideal.div_coe hy]; exact ha.mul ⟨1 / y, rfl⟩

/-- Sixty-four is a real number. -/
theorem half_real : ∃ r : ℝ, r ≠ 0 ∧ Ideal.ofBits .f32 0x42800000#32 = (r : EReal) := ⟨64, by norm_num, by
  simp [Ideal.ofBits, Ideal.ieee, -EReal.coe_mul, -EReal.coe_neg]; norm_num⟩
/-- A hundred and twenty-eight is a real number. -/
theorem whole_real : ∃ r : ℝ, r ≠ 0 ∧ Ideal.ofBits .f32 0x43000000#32 = (r : EReal) := ⟨128, by norm_num, by
  simp [Ideal.ofBits, Ideal.ieee, -EReal.coe_mul, -EReal.coe_neg]; norm_num⟩
/-- A hundred and twenty-seven is a real number. -/
theorem last_real : ∃ r : ℝ, r ≠ 0 ∧ Ideal.ofBits .f32 0x42FE0000#32 = (r : EReal) := ⟨127, by norm_num, by
  simp [Ideal.ofBits, Ideal.ieee, -EReal.coe_mul, -EReal.coe_neg]; norm_num⟩
/-- Two is a real number. -/
theorem two_real : ∃ r : ℝ, r ≠ 0 ∧ Ideal.ofBits .f32 0x40000000#32 = (r : EReal) := ⟨2, by norm_num, by
  simp [Ideal.ofBits, Ideal.ieee, -EReal.coe_mul, -EReal.coe_neg]; norm_num⟩
/-- One is a real number. -/
theorem one_real : ∃ r : ℝ, r ≠ 0 ∧ Ideal.ofBits .f32 0x3F800000#32 = (r : EReal) := ⟨1, by norm_num, by
  simp [Ideal.ofBits, Ideal.ieee, -EReal.coe_mul, -EReal.coe_neg]; norm_num⟩
/-- Minus one is a real number. -/
theorem minus_real : ∃ r : ℝ, r ≠ 0 ∧ Ideal.ofBits .f32 0xBF800000#32 = (r : EReal) := ⟨-1, by norm_num, by
  simp [Ideal.ofBits, Ideal.ieee, -EReal.coe_mul, -EReal.coe_neg]; norm_num⟩

/-- Whatever is a real number other than zero is a real number. -/
theorem IsReal.of {a : EReal} (h : ∃ r : ℝ, r ≠ 0 ∧ a = (r : EReal)) : IsReal a := h.imp fun _ h => h.2

/-- The image coordinate of a vertex coordinate. -/
theorem IsReal.image {a : EReal} (h : IsReal a) :
    IsReal (Ideal.div ((Ideal.ofBits .f32 0xBF800000#32 + Ideal.div (Ideal.ofBits .f32 0x40000000#32 * (Ideal.ofBits .f32 0x42FE0000#32
      - (Ideal.div (-a * Ideal.ofBits .f32 0x43000000#32) (Ideal.ofBits .f32 0x40000000#32) + Ideal.ofBits .f32 0x42800000#32)) + Ideal.ofBits .f32 0x3F800000#32)
      (Ideal.ofBits .f32 0x43000000#32)) * Ideal.ofBits .f32 0x43000000#32) (Ideal.ofBits .f32 0x40000000#32) + Ideal.ofBits .f32 0x42800000#32) :=
  (((IsReal.of minus_real).add ((((IsReal.of two_real).mul ((IsReal.of last_real).sub (((h.neg.mul (.of whole_real)).div two_real).add (.of half_real)))).add
    (.of one_real)).div whole_real)).mul (.of whole_real)).div two_real |>.add (.of half_real)

/-- An extended real whose magnitude is finite is a real number. -/
theorem IsReal.of_abs {a : EReal} (h : max a (-a) < Ideal.ofBits .f32 0x7F800000#32) : IsReal a := by
  have e : Ideal.ofBits .f32 0x7F800000#32 = ⊤ := by simp [Ideal.ofBits, Ideal.ieee]
  rw [e] at h
  induction a with
  | bot => simp at h
  | top => simp at h
  | coe r => exact ⟨r, rfl⟩

end Cert.Raster

namespace Cert.ReferenceIdeal.Raster

open Idealize.ShloMosaic Idealize.ShloMosaic.Tactic Cert.ReferenceIdeal Cert.ReferenceIdeal.Gen Cert.ReferenceIdeal.Read Cert.Raster

variable (x0 : (⟨S2x2000x3, .f32⟩ : BufTy).Contents (Elt Ideal)) (x1 : (⟨S2x4000x3, .i32⟩ : BufTy).Contents (Elt Ideal)) (x2 : (⟨S2x4000x3x3, .f32⟩ : BufTy).Contents (Elt Ideal))

/-- Under the precondition every vertex's first two coordinates are real numbers. -/
theorem vertex_real [Cert.Pre_xy_finite.Facts] (hp : Cert.Pre_xy_finite.fn (F := Ideal) x0 x1 x2 = fun _ => 1#1) (b : Fin 2) (n : Fin 2000) (k : Fin 2) :
    IsReal (x0 (ix3 b n (k.castLE (by decide)))) := by
  have h := congrFun hp (ix3 b n k)
  have e : Cert.Pre_xy_finite.fn (F := Ideal) x0 x1 x2 (ix3 b n k)
      = BitVec.ofBool (decide (max (x0 (ix3 b n (k.castLE (by decide)))) (-x0 (ix3 b n (k.castLE (by decide)))) < Ideal.ofBits .f32 0x7F800000#32)) := by
    unfold Cert.Pre_xy_finite.fn
    pointwise
    rfl
  rw [e] at h
  refine IsReal.of_abs ?_
  by_contra hc
  rw [decide_eq_false hc] at h
  exact absurd h (by decide)

variable {x0} in
/-- A vertex's first image coordinate is real if its first coordinate is. -/
theorem x_real (b : Fin 2) (n : Fin 2000) (h : IsReal (x0 (ix3 b n 0))) : IsReal (val_main_v59 (F := Ideal) x0 (ix3 b n 0)) := by
  unfold val_main_v59 val_main_v58 val_main_v57 val_main_v56 val_main_v45 val_main_v44 val_main_v43 val_main_v42 val_main_v41 val_main_v40 val_main_v31 val_main_v30 val_main_v29 val_main_v28 val_main_v27 val_main_v26 val_main_v25 val_main_v24 val_main_v21 val_main_v20 val_main_v13 val_main_v12 val_main_v11 val_main_v10 val_main_v9 val_main_v8 val_main_v2 val_main_v1 val_main_v0
  pointwise
  exact h.image

variable {x0} in
/-- A vertex's second image coordinate is real if its second coordinate is. -/
theorem y_real (b : Fin 2) (n : Fin 2000) (h : IsReal (x0 (ix3 b n 1))) : IsReal (val_main_v59 (F := Ideal) x0 (ix3 b n 1)) := by
  unfold val_main_v59 val_main_v58 val_main_v57 val_main_v56 val_main_v51 val_main_v50 val_main_v49 val_main_v48 val_main_v47 val_main_v46 val_main_v39 val_main_v38 val_main_v37 val_main_v36 val_main_v35 val_main_v34 val_main_v33 val_main_v32 val_main_v23 val_main_v22 val_main_v19 val_main_v18 val_main_v17 val_main_v16 val_main_v15 val_main_v14 val_main_v5 val_main_v4 val_main_v3
  pointwise
  exact h.image

/-- Under the precondition every triangle's image coordinates are real numbers. -/
theorem tri_real [Cert.Pre_xy_finite.Facts] (hp : Cert.Pre_xy_finite.fn (F := Ideal) x0 x1 x2 = fun _ => 1#1) (b : Fin 2) (f : Fin 4000) :
    Finite (triOf x0 x1 b f) := fun v => by
  obtain ⟨n, hn⟩ := gather_corner (val_main_v59 (F := Ideal) x0) (val_main_v65 (F := Ideal) x1) b f v 0
  obtain ⟨n', hn'⟩ := gather_corner (val_main_v59 (F := Ideal) x0) (val_main_v65 (F := Ideal) x1) b f v 1
  obtain ⟨x, hx⟩ := x_real b n (vertex_real x0 x1 x2 hp b n 0)
  obtain ⟨y, hy⟩ := y_real b n' (vertex_real x0 x1 x2 hp b n' 1)
  exact ⟨x, y, hn.trans hx, hn'.trans hy⟩

end Cert.ReferenceIdeal.Raster
end
-- ==== Proof.Raster.Take.lean ====
/- The reference's reads by face number: a value of the face a pixel has, and a face's attributes. -/
module

public import proofs.«01_k».proof.Proof.Raster.Pick
public import proofs.«01_k».proof.Proof.Raster.Gather
public import proofs.«01_k».proof.Proof.Raster.Words

@[expose] public section

set_option maxRecDepth 8192

noncomputable section

namespace Cert.Raster

open Idealize.ShloMosaic

/-- A number that is not negative is not wrapped. -/
theorem wrap_word (n : ℕ) (h : n < 2147483648) (k : BitVec 32) :
    Scalar.select (IntOp.cmpi .slt (BitVec.ofNat 32 n) 0#32) (IntOp.addi (BitVec.ofNat 32 n) k) (BitVec.ofNat 32 n) = BitVec.ofNat 32 n := by
  rw [slt_word n h]; rfl

/-- A number within the bounds is found to be so. -/
theorem bounds_word (n m : ℕ) (h : n ≤ m) (hm : m < 2147483648) :
    IntOp.andi (IntOp.cmpi .sge (BitVec.ofNat 32 n) 0#32) (IntOp.cmpi .sle (BitVec.ofNat 32 n) (BitVec.ofNat 32 m)) = 1#1 := by
  rw [sge_word n (by omega), WordCmp.cmpi_sle_eq, toInt_word n (by omega), toInt_word m hm, decide_eq_true (by exact_mod_cast h)]; rfl

end Cert.Raster

namespace Cert.ReferenceIdeal.Raster

open Idealize.ShloMosaic Idealize.ShloMosaic.Tactic Cert.ReferenceIdeal Cert.ReferenceIdeal.Gen Cert.ReferenceIdeal.Read Cert.Raster

/-- A conjunction along an axis of one entry is that entry. -/
theorem reduce_one {s t : Shape} {a : Fin s.rank} (f : IVec s 1) (h' : s.ReducesTo [a] t) (h : s.Reduces [a] t) (h1 : s.size a = 1) (j : t.Idx) (i : s.Idx)
    (hi : ∀ k, h.lift j k = i) (hf : f i = 1#1) : Host.reduce IntOp.andi f (constantI S_ 1 1#1) h' h_S_ j = 1#1 := by
  rw [Host.reduce_eq_fold_single IntOp.andi _ _ _ h]
  have e : f ∘ h.lift j = fun _ => 1#1 := funext fun k => (congrArg f (hi k)).trans hf
  rw [e, Finset.fold_const]
  · split <;> rfl
  · rfl

/-- The numbers, wrapped. -/
abbrev alongIdx (I : IVec S2x1x16384 32) : IVec S2x1x16384x1 32 :=
  shapeCast _ (select (cmpi .slt I (val_main_call3_v0 (F := Ideal))) (addi I (val_main_call3_v2 (F := Ideal))) I) shapeCasts_S2x1x16384_S2x1x16384x1

/-- The value, at each pixel, of the face whose number the pixel has. -/
abbrev along (X : FVec Ideal S2x4000x16384 .f32) (I : IVec S2x1x16384 32) : FVec Ideal S2x1x16384 .f32 :=
  select (Host.reduce IntOp.andi (andi (cmpi .sge (alongIdx I) (val_main_call3_v6 (F := Ideal))) (cmpi .sle (alongIdx I) (val_main_call3_v9 (F := Ideal))))
      (val_main_call3_c_3 (F := Ideal)) reducesTo_S2x1x16384x1_S2x1x16384_d3 h_S_)
    (Host.gather gather_S2x4000x16384_S2x1x16384x1_S2x1x16384_n_1_02_02_1_3_111 X (alongIdx I)) (val_main_call3_v14 (F := Ideal))

/-- The wrapped number of a face is its number. -/
theorem alongIdx_at (I : IVec S2x1x16384 32) (b : Fin 2) (p : Fin 16384) (n : ℕ) (hn : n < 4000) (h : I (ix3 b 0 p) = BitVec.ofNat 32 n) :
    alongIdx I (ix4 b 0 p 0) = BitVec.ofNat 32 n := by
  unfold alongIdx val_main_call3_v0 val_main_call3_v2 val_main_call3_c val_main_call3_c_0
  pointwise [h]
  exact wrap_word n (by omega) _

/-- The value read at a pixel is that of the face whose number it has. -/
theorem along_at (X : FVec Ideal S2x4000x16384 .f32) (I : IVec S2x1x16384 32) (b : Fin 2) (p : Fin 16384) (f : Fin 4000)
    (h : I (ix3 b 0 p) = BitVec.ofNat 32 f.val) : along X I (ix3 b 0 p) = X (ix3 b f p) := by
  have e := alongIdx_at I b p f.val f.isLt h
  have hm : Host.reduce IntOp.andi (andi (cmpi .sge (alongIdx I) (val_main_call3_v6 (F := Ideal))) (cmpi .sle (alongIdx I) (val_main_call3_v9 (F := Ideal))))
      (val_main_call3_c_3 (F := Ideal)) reducesTo_S2x1x16384x1_S2x1x16384_d3 h_S_ (ix3 b 0 p) = 1#1 := by
    refine reduce_one _ _ (by decide) rfl _ (ix4 b 0 p 0) ?_ ?_
    · intro k
      have hk : k = ⟨0, Nat.one_pos⟩ := Fin.ext (by have := k.isLt; change k.val < 1 at this; change k.val = 0; omega)
      subst hk
      funext d
      match d with
      | ⟨0, _⟩ => rfl
      | ⟨1, _⟩ => rfl
      | ⟨2, _⟩ => rfl
      | ⟨3, _⟩ => rfl
    · show IntOp.andi (IntOp.cmpi .sge (alongIdx I (ix4 b 0 p 0)) 0#32) (IntOp.cmpi .sle (alongIdx I (ix4 b 0 p 0)) 3999#32) = 1#1
      rw [e]
      exact bounds_word _ 3999 (by omega) (by omega)
  show Scalar.select _ _ _ = _
  rw [hm]
  refine (gather_along X (alongIdx I) b 0 p).trans (congrArg X ?_)
  exact congrArg (fun g => ix3 b g p) (Fin.ext ((congrArg (fun w : BitVec 32 => min w.toInt.toNat 3999) e).trans (index_word _ _ (by omega) (by omega))))

/-- The face numbers, wrapped. -/
abbrev takeIdx (I : IVec S32768 32) : IVec S32768x1 32 :=
  broadcastInDim S32768x1 ![0] bcast_S32768_S32768x1_0 (select (cmpi .slt I (val_main_call11_v0 (F := Ideal))) (addi I (val_main_call11_v2 (F := Ideal))) I)

/-- The attributes read for a pixel are those of the face whose number it has. -/
theorem take_at (x0 : (⟨S2x2000x3, .f32⟩ : BufTy).Contents (Elt Ideal)) (x1 : (⟨S2x4000x3, .i32⟩ : BufTy).Contents (Elt Ideal))
    (x2 : (⟨S2x4000x3x3, .f32⟩ : BufTy).Contents (Elt Ideal)) (n : Fin 32768) (v a : Fin 3) (f : Fin 8000)
    (h : val_main_v200 (F := Ideal) x0 x1 (ix1 n) = BitVec.ofNat 32 f.val) :
    val_main_v201 (F := Ideal) x0 x1 x2 (ix3 n v a) = val_main_v196 (F := Ideal) x2 (ix3 f v a) := by
  have e : val_main_call11_v5 (F := Ideal) x0 x1 (ix2 n 0) = BitVec.ofNat 32 f.val := by
    unfold val_main_call11_v5 val_main_call11_v4 val_main_call11_v3 val_main_call11_v2 val_main_call11_v1 val_main_call11_v0 val_main_call11_c val_main_call11_c_0
    pointwise [h]
    exact wrap_word _ (by omega) _
  have hm : val_main_call11_v12 (F := Ideal) x0 x1 (ix1 n) = 1#1 := by
    refine reduce_one _ _ (by decide) rfl _ (ix2 n 0) ?_ ?_
    · intro k
      have hk : k = ⟨0, Nat.one_pos⟩ := Fin.ext (by have := k.isLt; change k.val < 1 at this; change k.val = 0; omega)
      subst hk
      funext d
      match d with
      | ⟨0, _⟩ => rfl
      | ⟨1, _⟩ => rfl
    · show IntOp.andi (IntOp.cmpi .sge (val_main_call11_v5 (F := Ideal) x0 x1 (ix2 n 0)) 0#32) (IntOp.cmpi .sle (val_main_call11_v5 (F := Ideal) x0 x1 (ix2 n 0)) 7999#32) = 1#1
      rw [e]
      exact bounds_word _ 7999 (by omega) (by omega)
  have hm' : val_main_call11_v14 (F := Ideal) x0 x1 (ix3 n v a) = 1#1 := by
    unfold val_main_call11_v14
    pointwise [hm]
  unfold val_main_v201
  show Scalar.select (val_main_call11_v14 (F := Ideal) x0 x1 (ix3 n v a)) _ _ = _
  rw [hm']
  refine (gather_take (val_main_v196 (F := Ideal) x2) (val_main_call11_v5 (F := Ideal) x0 x1) n v a).trans (congrArg (val_main_v196 (F := Ideal) x2) ?_)
  exact congrArg (fun g => ix3 g v a) (Fin.ext ((congrArg (fun w : BitVec 32 => min w.toInt.toNat 7999) e).trans (index_word _ _ (by omega) (by omega))))

end Cert.ReferenceIdeal.Raster
end
-- ==== Proof.Raster.Pixel.lean ====
/- The reference's result at one pixel, from the nearest face there. -/
module

public import proofs.«01_k».proof.Proof.Raster.Take

@[expose] public section

set_option maxRecDepth 8192

noncomputable section

namespace Cert.ReferenceIdeal.Raster

open Idealize.ShloMosaic Idealize.ShloMosaic.Tactic Cert.ReferenceIdeal Cert.ReferenceIdeal.Gen Cert.ReferenceIdeal.Read Cert.Raster

variable (x0 : (⟨S2x2000x3, .f32⟩ : BufTy).Contents (Elt Ideal)) (x1 : (⟨S2x4000x3, .i32⟩ : BufTy).Contents (Elt Ideal))

section
variable (b : Fin 2) (p : Fin 16384) (j : Fin 4000) (e : val_main_v160 (F := Ideal) x0 x1 (ix2 b p) = BitVec.ofNat 32 j.val)
include e

/-- The face number the reads take is the one picked. -/
theorem number_at : val_main_v161 (F := Ideal) x0 x1 (ix3 b 0 p) = BitVec.ofNat 32 j.val := by
  unfold val_main_v161
  pointwise [e]

/-- The depth of the pixel's face. -/
theorem depth_at : val_main_v163 (F := Ideal) x0 x1 (ix2 b p) = offers x0 x1 b p j := by
  have h := (along_at (val_main_v153 (F := Ideal) x0 x1) _ b p j (number_at x0 x1 b p j e)).trans (offer_at x0 x1 b j p)
  have h' : val_main_v162 (F := Ideal) x0 x1 (ix3 b 0 p) = _ := h
  unfold val_main_v163
  pointwise [h']

/-- The three weights of the pixel's face. -/
theorem first_at : val_main_v166 (F := Ideal) x0 x1 (ix2 b p) = rw0 (triOf x0 x1 b j) (num (p.val % 128)) (num (p.val / 128)) := by
  have h := (along_at (val_main_v118 (F := Ideal) x0 x1) _ b p j (number_at x0 x1 b p j e)).trans (w0_at x0 x1 b j p)
  have h' : val_main_v165 (F := Ideal) x0 x1 (ix3 b 0 p) = _ := h
  unfold val_main_v166
  pointwise [h']

/-- The second weight of the pixel's face. -/
theorem second_at : val_main_v169 (F := Ideal) x0 x1 (ix2 b p) = rw1 (triOf x0 x1 b j) (num (p.val % 128)) (num (p.val / 128)) := by
  have h := (along_at (val_main_v133 (F := Ideal) x0 x1) _ b p j (number_at x0 x1 b p j e)).trans (w1_at x0 x1 b j p)
  have h' : val_main_v168 (F := Ideal) x0 x1 (ix3 b 0 p) = _ := h
  unfold val_main_v169
  pointwise [h']

/-- The third weight of the pixel's face. -/
theorem third_at : val_main_v172 (F := Ideal) x0 x1 (ix2 b p) = rw2 (triOf x0 x1 b j) (num (p.val % 128)) (num (p.val / 128)) := by
  have h := (along_at (val_main_v136 (F := Ideal) x0 x1) _ b p j (number_at x0 x1 b p j e)).trans (w2_at x0 x1 b j p)
  have h' : val_main_v171 (F := Ideal) x0 x1 (ix3 b 0 p) = _ := h
  unfold val_main_v172
  pointwise [h']

/-- Whether the pixel has a face. -/
theorem has_at : val_main_v174 (F := Ideal) x0 x1 (ix2 b p) = BitVec.ofBool (decide (offers x0 x1 b p j < far)) := by
  unfold val_main_v174 val_main_v173 val_main_cst_34
  pointwise [depth_at x0 x1 b p j e]
  rfl

end

/-- A pixel's place in the list of pixels. -/
abbrev pix (y x : Fin 128) : Fin 16384 := ⟨y.val * 128 + x.val, by omega⟩

section
variable (b : Fin 2) (y x : Fin 128)

/-- The face number the pixel is given. -/
theorem face_at : val_main_v182 (F := Ideal) x0 x1 (ix3 b y x)
    = Scalar.select (val_main_v174 (F := Ideal) x0 x1 (ix2 b (pix y x))) (val_main_v160 (F := Ideal) x0 x1 (ix2 b (pix y x))) 4294967295#32 := by
  unfold val_main_v182 val_main_v175 val_main_call7_v1 val_main_call7_v0 val_main_c_35
  pointwise
  rfl

/-- The pixel's weights, where it has a face. -/
theorem weight_at (h : val_main_v174 (F := Ideal) x0 x1 (ix2 b (pix y x)) = 1#1) (k a : Fin 3) : val_main_v204 (F := Ideal) x0 x1 (ix5 b y x k a)
    = match k with
      | 0 => val_main_v166 (F := Ideal) x0 x1 (ix2 b (pix y x))
      | 1 => val_main_v169 (F := Ideal) x0 x1 (ix2 b (pix y x))
      | 2 => val_main_v172 (F := Ideal) x0 x1 (ix2 b (pix y x)) := by
  match k with
  | 0 | 1 | 2 =>
    unfold val_main_v204 val_main_v203 val_main_v183 val_main_v181 val_main_call8_v2 val_main_call8_v1 val_main_call8_v0 val_main_v180 val_main_v179 val_main_v178 val_main_v177 val_main_v176 val_main_cst_36
    pointwise [h]

/-- The face number the pixel is given, among the faces of both batches. -/
theorem mark_at : val_main_v192 (F := Ideal) x0 x1 (ix3 b y x) = Scalar.select (IntOp.cmpi .sge (val_main_v182 (F := Ideal) x0 x1 (ix3 b y x)) 0#32)
    (IntOp.addi (val_main_v182 (F := Ideal) x0 x1 (ix3 b y x)) (IntOp.muli (BitVec.ofNat 32 b.val) 4000#32)) 4294967295#32 := by
  unfold val_main_v192 val_main_call9_v1 val_main_call9_v0 val_main_v191 val_main_v190 val_main_v189 val_main_v188 val_main_v187 val_main_v186 val_main_v185 val_main_v184 val_main_c_37 val_main_c_38 val_main_c_39
  pointwise
  rfl

/-- The result at an entry, from the face number the pixel is given. -/
theorem result_at (x2 : (⟨S2x4000x3x3, .f32⟩ : BufTy).Contents (Elt Ideal)) (ch : Fin 4) : val_main_v211 (F := Ideal) x0 x1 x2 (ix4 b ch y x)
    = if h : ch.val < 3 then
        Scalar.select (IntOp.cmpi .eq (val_main_v192 (F := Ideal) x0 x1 (ix3 b y x)) 4294967295#32) 0
          (val_main_v206 (F := Ideal) x0 x1 x2 (ix4 b y x ⟨ch.val, h⟩))
      else FloatOps.uitofp (F := Ideal) .f32 (IntOp.cmpi .sgt (val_main_v192 (F := Ideal) x0 x1 (ix3 b y x)) 4294967295#32) := by
  unfold val_main_v211 val_main_v210 val_main_v209 val_main_v208 val_main_call12_v2 val_main_call12_v1 val_main_call12_v0 val_main_v207 val_main_cst_44 val_main_v198 val_main_v197 val_main_c_41 val_main_v195 val_main_v194 val_main_v193 val_main_c_40
  pointwise
  have z : (id (constant (F := Ideal) S_ FTy.f32 0#32) ix0) = (0 : EReal) := by simp [constant, FloatOps.ofBits, Ideal.ofBits, Ideal.ieee]
  rw [z]

/-- A pixel's place in the list of both batches' pixels. -/
abbrev place (b : Fin 2) (y x : Fin 128) : Fin 32768 := ⟨b.val * 16384 + y.val * 128 + x.val, by omega⟩

/-- The face number in the list of both batches' pixels, zero where the pixel has none. -/
theorem list_at : val_main_v200 (F := Ideal) x0 x1 (ix1 (place b y x))
    = Scalar.select (IntOp.cmpi .eq (val_main_v192 (F := Ideal) x0 x1 (ix3 b y x)) 4294967295#32) 0#32 (val_main_v192 (F := Ideal) x0 x1 (ix3 b y x)) := by
  unfold val_main_v200 val_main_v199 val_main_call10_v1 val_main_call10_v0 val_main_c_42 val_main_v198 val_main_v197 val_main_c_41
  pointwise
  have hi : ∀ h1 h2 h3, (ix3 (⟨(b.val * 16384 + y.val * 128 + x.val) / 16384, h1⟩ : Fin 2) (⟨(b.val * 16384 + y.val * 128 + x.val) / 128 % 128, h2⟩ : Fin 128)
      (⟨(b.val * 16384 + y.val * 128 + x.val) % 128, h3⟩ : Fin 128)) = ix3 b y x := fun h1 h2 h3 => by
    have e1 : (⟨(b.val * 16384 + y.val * 128 + x.val) / 16384, h1⟩ : Fin 2) = b := Fin.ext (by dsimp only; omega)
    have e2 : (⟨(b.val * 16384 + y.val * 128 + x.val) / 128 % 128, h2⟩ : Fin 128) = y := Fin.ext (by dsimp only; omega)
    have e3 : (⟨(b.val * 16384 + y.val * 128 + x.val) % 128, h3⟩ : Fin 128) = x := Fin.ext (by dsimp only; omega)
    rw [e1, e2, e3]
  rw [hi]
  rfl

/-- The attributes of the face the pixel is given. -/
theorem attr_at (x2 : (⟨S2x4000x3x3, .f32⟩ : BufTy).Contents (Elt Ideal)) (j : Fin 4000) (v a : Fin 3)
    (h : val_main_v200 (F := Ideal) x0 x1 (ix1 (place b y x)) = BitVec.ofNat 32 (j.val + b.val * 4000)) :
    val_main_v202 (F := Ideal) x0 x1 x2 (ix5 b y x v a) = x2 (ix4 b j v a) := by
  have e := take_at x0 x1 x2 (place b y x) v a ⟨j.val + b.val * 4000, by omega⟩ h
  have e2 : val_main_v196 (F := Ideal) x2 (ix3 (⟨j.val + b.val * 4000, by omega⟩ : Fin 8000) v a) = x2 (ix4 b j v a) := by
    unfold val_main_v196
    pointwise
  refine Eq.trans ?_ (e.trans e2)
  unfold val_main_v202
  pointwise

/-- The attributes weighed and summed. -/
theorem sum_at (x2 : (⟨S2x4000x3x3, .f32⟩ : BufTy).Contents (Elt Ideal)) (a : Fin 3) :
    val_main_v206 (F := Ideal) x0 x1 x2 (ix4 b y x a)
      = val_main_v204 (F := Ideal) x0 x1 (ix5 b y x 0 a) * val_main_v202 (F := Ideal) x0 x1 x2 (ix5 b y x 0 a)
        + val_main_v204 (F := Ideal) x0 x1 (ix5 b y x 1 a) * val_main_v202 (F := Ideal) x0 x1 x2 (ix5 b y x 1 a)
        + val_main_v204 (F := Ideal) x0 x1 (ix5 b y x 2 a) * val_main_v202 (F := Ideal) x0 x1 x2 (ix5 b y x 2 a) := by
  rw [val_main_v206_apply, Fin.sum_univ_three]
  have z : (val_main_cst_43 (F := Ideal)) (Shape.Idx.first h_S_) = (0 : EReal) := by simp [val_main_cst_43, constant, FloatOps.ofBits, Ideal.ofBits, Ideal.ieee]
  rw [z, zero_add]
  have hi : ∀ k : Fin 3, val_main_v205 (F := Ideal) x0 x1 x2 (idx_main_v206 (ix4 b y x a) k)
      = val_main_v204 (F := Ideal) x0 x1 (ix5 b y x k a) * val_main_v202 (F := Ideal) x0 x1 x2 (ix5 b y x k a) := fun k =>
    congrArg (val_main_v205 (F := Ideal) x0 x1 x2) (funext fun d => match d with
      | ⟨0, _⟩ => rfl | ⟨1, _⟩ => rfl | ⟨2, _⟩ => rfl | ⟨3, _⟩ => rfl | ⟨4, _⟩ => rfl)
  rw [hi, hi, hi]

variable (j : Fin 4000) (e : val_main_v160 (F := Ideal) x0 x1 (ix2 b (pix y x)) = BitVec.ofNat 32 j.val) (x2 : (⟨S2x4000x3x3, .f32⟩ : BufTy).Contents (Elt Ideal)) (ch : Fin 4)
include e

/-- Where no face is near enough the result is zero. -/
theorem miss_at (h : ¬offers x0 x1 b (pix y x) j < far) : val_main_v211 (F := Ideal) x0 x1 x2 (ix4 b ch y x) = (0 : EReal) := by
  have h174 : val_main_v174 (F := Ideal) x0 x1 (ix2 b (pix y x)) = 0#1 := by rw [has_at x0 x1 b _ j e, decide_eq_false h]; rfl
  have h182 : val_main_v182 (F := Ideal) x0 x1 (ix3 b y x) = 4294967295#32 := by rw [face_at, h174]; rfl
  have h192 : val_main_v192 (F := Ideal) x0 x1 (ix3 b y x) = 4294967295#32 := by rw [mark_at, h182]; rfl
  rw [result_at, h192]
  split
  · rfl
  · show FloatOps.uitofp (F := Ideal) .f32 0#1 = (0 : EReal)
    simp [FloatOps.uitofp]

/-- Where a face is near enough the result is its attributes weighed, then a one. -/
theorem hit_at (h : offers x0 x1 b (pix y x) j < far) : val_main_v211 (F := Ideal) x0 x1 x2 (ix4 b ch y x)
    = if h : ch.val < 3 then
        rw0 (triOf x0 x1 b j) (num x.val) (num y.val) * x2 (ix4 b j 0 ⟨ch.val, h⟩)
          + rw1 (triOf x0 x1 b j) (num x.val) (num y.val) * x2 (ix4 b j 1 ⟨ch.val, h⟩)
          + rw2 (triOf x0 x1 b j) (num x.val) (num y.val) * x2 (ix4 b j 2 ⟨ch.val, h⟩)
      else (1 : EReal) := by
  have h174 : val_main_v174 (F := Ideal) x0 x1 (ix2 b (pix y x)) = 1#1 := by rw [has_at x0 x1 b _ j e, decide_eq_true h]; rfl
  have h182 : val_main_v182 (F := Ideal) x0 x1 (ix3 b y x) = BitVec.ofNat 32 j.val := by rw [face_at, h174, e]; rfl
  have h192 : val_main_v192 (F := Ideal) x0 x1 (ix3 b y x) = BitVec.ofNat 32 (j.val + b.val * 4000) := by
    rw [mark_at, h182, sge_word _ (by omega)]
    simp [Scalar.select, IntOp.addi, IntOp.muli, BitVec.ofNat_add, BitVec.ofNat_mul]
  have hne : IntOp.cmpi .eq (BitVec.ofNat 32 (j.val + b.val * 4000)) 4294967295#32 = 0#1 := by
    have : ¬BitVec.ofNat 32 (j.val + b.val * 4000) = 4294967295#32 := fun hc => by
      have := congrArg BitVec.toInt hc
      rw [toInt_word _ (by omega)] at this
      have h' : (4294967295#32 : BitVec 32).toInt = -1 := by decide
      omega
    simp only [IntOp.cmpi, beq_eq_false_iff_ne.mpr this]
    rfl
  have hgt : IntOp.cmpi .sgt (BitVec.ofNat 32 (j.val + b.val * 4000)) 4294967295#32 = 1#1 := by
    have h' : (4294967295#32 : BitVec 32).toInt = -1 := by decide
    rw [WordCmp.cmpi_sgt_eq, toInt_word (j.val + b.val * 4000) (by omega), decide_eq_true (by rw [h']; omega)]; rfl
  have h200 : val_main_v200 (F := Ideal) x0 x1 (ix1 (place b y x)) = BitVec.ofNat 32 (j.val + b.val * 4000) := by rw [list_at, h192, hne]; rfl
  have ex : num ((pix y x).val % 128) = num x.val := congrArg num (by dsimp only [pix]; omega)
  have ey : num ((pix y x).val / 128) = num y.val := congrArg num (by dsimp only [pix]; omega)
  rw [result_at, h192, hne, hgt]
  split
  · next hc =>
    show val_main_v206 (F := Ideal) x0 x1 x2 (ix4 b y x ⟨ch.val, hc⟩) = _
    rw [sum_at, attr_at x0 x1 b y x x2 j _ _ h200, attr_at x0 x1 b y x x2 j _ _ h200, attr_at x0 x1 b y x x2 j _ _ h200,
      weight_at x0 x1 b y x h174, weight_at x0 x1 b y x h174, weight_at x0 x1 b y x h174, first_at x0 x1 b _ j e, second_at x0 x1 b _ j e, third_at x0 x1 b _ j e, ex, ey]
  · show FloatOps.uitofp (F := Ideal) .f32 1#1 = (1 : EReal)
    simp [FloatOps.uitofp]

end

end Cert.ReferenceIdeal.Raster
end
-- ==== Proof.Raster.Coef.lean ====
/- The coefficient array that the kernel's host operations make of the projected vertices, at an index. -/
module

public import proofs.«01_k».proof.Proof.Gen.KernelIdeal
public import proofs.«01_k».proof.Proof.Gen.KernelIdeal.Launch
public import proofs.«01_k».proof.Proof.Raster.Tri
public import Idealize.ShloMosaic.Lib.StableHlo.ReadAt
public import Idealize.ShloMosaic.Lib.Pointwise
public import Idealize.ShloMosaic.Lib.Routing.OpsSet

@[expose] public section

set_option maxRecDepth 8192

noncomputable section

namespace Cert.KernelIdeal.Raster

open Idealize.ShloMosaic Idealize.SL.Sem Cert.KernelIdeal Cert.KernelIdeal.Gen Cert.Raster

/-- The host operations between the projected vertices and the kernel's launch. -/
abbrev coefOps : List (HloOp τ sig (Elt Ideal)) := hostOps0.drop 93 ++ (hostOps0_1 ++ hostOps0_2)

/-- An update of the padding lands on row 2. -/
theorem pad_lands : ∀ (b : Fin 2) (i : Fin 96),
    scatter_S2x9x96_S1_S2x96_01_1_1_0.resultIdx? (ix2 b i) (fun _ => 2#32) = some (ix3 b 2 i) := by decide +kernel

/-- The padding: −1 on row 2, zero elsewhere. -/
theorem pad_at (b : Fin 2) (k : Fin 9) (i : Fin 96) :
    Host.scatter scatter_S2x9x96_S1_S2x96_01_1_1_0 (fun _ y => y) (broadcastInDim S2x9x96 ![] bcast_S_S2x9x96 (constant (F := Ideal) S_ FTy.f32 0#32))
      (broadcastInDim S1 ![] bcast_S_S1 (constantI S_ 32 2#32)) (broadcastInDim S2x96 ![] bcast_S_S2x96 (constant (F := Ideal) S_ FTy.f32 3212836864#32)) (ix3 b k i) = padNum k := by
  unfold padNum
  split_ifs with h
  · subst h
    exact Routing.scatter_set_hit _ _ _ _ _ _ (fun _ _ => rfl) (ix2 b i) (pad_lands b i)
  · refine Routing.scatter_set_miss _ _ _ _ _ fun u hu => h ?_
    have e := (pad_lands (u 0) (u 1)).symm.trans
      ((congrArg (scatter_S2x9x96_S1_S2x96_01_1_1_0.resultIdx? · (fun _ => 2#32)) (ix2_eta u)).trans hu)
    exact (congrFun (Option.some.inj e) 1).symm

/-- The triangle `f` of image `b`, out of the array of projected corners. -/
abbrev triOf (X : S2x4000x3x3.Idx → EReal) (b : Fin 2) (f : Fin 4000) : Tri := fun v a => X (ix4 b f v a)

/-- A column of the coefficient array: a triangle's nine numbers, or the padding's. -/
theorem coef_at (W : Valuation τ sig (Elt Ideal)) (b : Fin 2) (k : Fin 9) (j : Fin 4096) :
    (StableHlo.after coefOps W (Proc.devRef .tc main_v128) : S2x9x4096.Idx → EReal) (ix3 b k j)
      = if h : j.val < 4000 then coef (triOf (W (Proc.devRef .tc main_v66)) b ⟨j, h⟩) k else padNum k := by
  unfold coefOps
  fin_cases k <;> simp only [Fin.zero_eta, Fin.mk_one, Fin.reduceFinMk] <;> (repeat after_reads_at)
  all_goals exact dite_congr rfl (fun _ => rfl) fun _ => pad_at ..

end Cert.KernelIdeal.Raster
end
-- ==== Proof.Raster.Corners.lean ====
/- The projected corners: the kernel's host operations compute them as the reference does. -/
module

public import proofs.«01_k».proof.Proof.Gen.KernelIdeal
public import proofs.«01_k».proof.Proof.Gen.KernelIdeal.Launch
public import proofs.«01_k».proof.Proof.Gen.ReferenceIdeal.Read
public import Idealize.ShloMosaic.Lib.StableHlo.ReadAt

@[expose] public section

set_option maxRecDepth 8192

noncomputable section

namespace Cert.KernelIdeal.Raster

open Idealize.ShloMosaic Idealize.SL.Sem Cert.KernelIdeal Cert.KernelIdeal.Gen

/-- The kernel's projected corners are the reference's. -/
theorem corners_eq (W : Valuation τ sig (Elt Ideal)) :
    (StableHlo.after (hostOps0.take 93) W (Proc.devRef .tc main_v66) : S2x4000x3x3.Idx → EReal)
      = Cert.ReferenceIdeal.Read.val_main_v66 (F := Ideal) (W (Proc.devRef .tc main_arg0)) (W (Proc.devRef .tc main_arg1)) := by
  after_reads_simp
  rfl

end Cert.KernelIdeal.Raster
end
-- ==== Proof.Raster.Tail.lean ====
/- What the host operations after the launch make of the kernel's triangle numbers: the interpolated attributes, at an index. -/
module

public import proofs.«01_k».proof.Proof.Gen.KernelIdeal
public import proofs.«01_k».proof.Proof.Gen.KernelIdeal.Launch
public import proofs.«01_k».proof.Proof.Raster.Tri
public import proofs.«01_k».proof.Proof.Raster.Gather
public import proofs.«01_k».proof.Proof.Raster.Words
public import Idealize.ShloMosaic.Lib.StableHlo.ReadAt
public import Idealize.ShloMosaic.Lib.Pointwise

@[expose] public section

set_option maxRecDepth 8192

noncomputable section

namespace Cert.KernelIdeal.Raster

open Idealize.ShloMosaic Idealize.SL.Sem Cert.KernelIdeal Cert.KernelIdeal.Gen Cert.Raster

/-- The host operations after the launch. -/
abbrev tailOps : List (HloOp τ sig (Elt Ideal)) := hostOps1 ++ (hostOps1_1 ++ (hostOps1_2 ++ (hostOps1_3 ++ hostOps1_4)))

/-- Where no triangle is nearest, the attributes are zero and so is the mask. -/
theorem tail_miss (W : Valuation τ sig (Elt Ideal)) (b : Fin 2) (ch : Fin 4) (y x : Fin 128)
    (ht : (W (Proc.devRef .tc main_v129) : S2x128x128.Idx → BitVec 32) (ix3 b y x) = -1#32) :
    (StableHlo.after tailOps W (Proc.devRef .tc main_v208) : S2x4x128x128.Idx → EReal) (ix4 b ch y x) = (0 : EReal) := by
  have e1 : (⟨(y.val * 128 + x.val) / 128, by omega⟩ : Fin 128) = y := Fin.ext (by dsimp only; omega)
  have e2 : (⟨(y.val * 128 + x.val) % 128, by omega⟩ : Fin 128) = x := Fin.ext (by dsimp only; omega)
  have hge : IntOp.cmpi .sge (-1#32) 0#32 = 0#1 := by decide
  unfold tailOps
  repeat after_reads_at
  simp only [e1, e2, ht, hge]
  pointwise
  split_ifs
  · exact Ideal.ofBits_zero_f32
  · show ((((0#1 : BitVec 1).toNat : ℝ)) : EReal) = 0
    simp

/-- Where triangle `f` is nearest, the attributes are its corners', weighted, and the mask is one. -/
theorem tail_hit (W : Valuation τ sig (Elt Ideal)) (b : Fin 2) (ch : Fin 4) (y x : Fin 128) (f : Fin 4000)
    (ht : (W (Proc.devRef .tc main_v129) : S2x128x128.Idx → BitVec 32) (ix3 b y x) = BitVec.ofNat 32 f)
    (q : Fin 9 → EReal) (hq : ∀ k, (W (Proc.devRef .tc main_v128) : S2x9x4096.Idx → EReal) (ix3 b k (f.castLE (by decide))) = q k)
    (A : Fin 3 → Fin 3 → EReal) (hA : ∀ v a, (W (Proc.devRef .tc main_arg2) : S2x4000x3x3.Idx → EReal) (ix4 b f v a) = A v a) :
    (StableHlo.after tailOps W (Proc.devRef .tc main_v208) : S2x4x128x128.Idx → EReal) (ix4 b ch y x)
      = if h : ch.val < 3 then
          kw0 q (num x) (num y) * A 0 ⟨ch, h⟩ + kw1 q (num x) (num y) * A 1 ⟨ch, h⟩ + kw2 q (num x) (num y) * A 2 ⟨ch, h⟩
        else 1 := by
  have e1 : (⟨(y.val * 128 + x.val) / 128, by omega⟩ : Fin 128) = y := Fin.ext (by dsimp only; omega)
  have e2 : (⟨(y.val * 128 + x.val) % 128, by omega⟩ : Fin 128) = x := Fin.ext (by dsimp only; omega)
  have e3 : (y.val * 128 + x.val) / 128 = y := by omega
  have e4 : (y.val * 128 + x.val) % 128 = x := by omega
  have e5 : (⟨min (BitVec.ofNat 32 f).toInt.toNat 4095, by omega⟩ : Fin 4096) = f.castLE (by decide) :=
    Fin.ext (index_word f 4095 (by omega) (by omega))
  have e6 : (⟨min (BitVec.ofNat 32 f).toInt.toNat 3999, by omega⟩ : Fin 4000) = f := Fin.ext (index_word f 3999 (by omega) (by omega))
  unfold tailOps
  repeat after_reads_at
  simp only [gather_coef, gather_attr]
  pointwise
  simp only [e1, e2, ht, sge_word f (by omega), slt_word f (by omega), WordCmp.select_one, WordCmp.select_zero, e5, e6, hq, e3, e4,
    num_word x (by omega), num_word y (by omega)]
  refine dite_congr rfl (fun h => ?_) fun _ => ?_
  · have a0 : (⟨ch.val / 3, by omega⟩ : Fin 3) = 0 := Fin.ext (by simp only [Fin.val_zero]; omega)
    have a1 : (⟨(3 + ch.val) / 3, by omega⟩ : Fin 3) = 1 := Fin.ext (by simp only [Fin.val_one]; omega)
    have a2 : (⟨(6 + ch.val) / 3, by omega⟩ : Fin 3) = 2 := Fin.ext (by simp only [Fin.val_two]; omega)
    have c0 : (⟨ch.val % 3, by omega⟩ : Fin 3) = ⟨ch, h⟩ := Fin.ext (by dsimp only; omega)
    have c1 : (⟨(3 + ch.val) % 3, by omega⟩ : Fin 3) = ⟨ch, h⟩ := Fin.ext (by dsimp only; omega)
    have c2 : (⟨(6 + ch.val) % 3, by omega⟩ : Fin 3) = ⟨ch, h⟩ := Fin.ext (by dsimp only; omega)
    simp only [a0, a1, a2, c0, c1, c2, hA]
    rfl
  · show ((((1#1 : BitVec 1).toNat : ℝ)) : EReal) = 1
    simp

end Cert.KernelIdeal.Raster
end
-- ==== Proof.Raster.Image.lean ====
/- The kernel's result is the reference's. -/
module

public import proofs.«01_k».proof.Proof.Raster.Agree
public import proofs.«01_k».proof.Proof.Raster.Real
public import proofs.«01_k».proof.Proof.Raster.Pixel
public import proofs.«01_k».proof.Proof.Raster.Coef
public import proofs.«01_k».proof.Proof.Raster.Corners
public import proofs.«01_k».proof.Proof.Raster.Tail

@[expose] public section

set_option maxRecDepth 8192

noncomputable section

namespace Cert.KernelIdeal.Raster

open Idealize.ShloMosaic Idealize.ShloMosaic.TcCoe Idealize.SL.Sem Cert.KernelIdeal Cert.KernelIdeal.Gen Cert.Raster

variable (m : (ℓ : Loc nD τ sig) → Buf (Elt Ideal) ℓ) (c : Dev nD)

/-- The vertices the kernel is launched on. -/
abbrev verts : (⟨Cert.ReferenceIdeal.S2x2000x3, .f32⟩ : BufTy).Contents (Elt Ideal) := m ((c.tc : Thread nD τ).loc main_arg0)
/-- The faces' vertex numbers the kernel is launched on. -/
abbrev faces : (⟨Cert.ReferenceIdeal.S2x4000x3, .i32⟩ : BufTy).Contents (Elt Ideal) := m ((c.tc : Thread nD τ).loc main_arg1)
/-- The attributes the kernel is launched on. -/
abbrev attrs : (⟨Cert.ReferenceIdeal.S2x4000x3x3, .f32⟩ : BufTy).Contents (Elt Ideal) := m ((c.tc : Thread nD τ).loc main_arg2)

/-- The triangle of a face. -/
abbrev tri (b : Fin 2) (f : Fin 4000) : Tri := Cert.ReferenceIdeal.Raster.triOf (verts m c) (faces m c) b f

/-- The operations before the region: the corners, then the nine numbers. -/
theorem before_eq : (List.flatten [hostOps0, hostOps0_1, hostOps0_2] : List (HloOp τ sig (Elt Ideal))) = hostOps0.take 93 ++ coefOps := by
  unfold coefOps
  rw [← List.append_assoc, List.take_append_drop]
  simp only [List.flatten_cons, List.flatten_nil, List.append_nil]

/-- The numbers the region finds. -/
theorem numbers_at (b : Fin 2) (k : Fin 9) (n : Fin 4096) : (V0 m c (Proc.devRef .tc main_v128) : S2x9x4096.Idx → EReal) (ix3 b k n)
    = if h : n.val < 4000 then coef (tri m c b ⟨n.val, h⟩) k else padNum k := by
  unfold V0
  rw [before_eq, StableHlo.after_append]
  refine (coef_at _ b k n).trans ?_
  rw [corners_eq]

/-- A face's column of numbers is its triangle's. -/
theorem col_face (b : Fin 2) (f : Fin 4000) : col m c b f.val = coef (tri m c b f) := by
  funext k
  unfold col
  rw [dif_pos (show f.val < 4096 by omega), numbers_at, dif_pos f.isLt]

/-- A column past the last face holds the numbers of no triangle. -/
theorem col_pad (b : Fin 2) (n : ℕ) (h : 4000 ≤ n) (h' : n < 4096) : col m c b n = padNum := by
  funext k
  unfold col
  rw [dif_pos h', numbers_at, dif_neg (not_lt.mpr h)]

/-- What the device's buffers hold where the region ends. -/
abbrev exit : Valuation τ sig (Elt Ideal) := Pipeline.withArrays spec0 c (V0 m c) fun w => (dats m 0 c).arrAt w cfg0.N

/-- The region's result holds the triangles found. -/
theorem exit_found : exit m c (Proc.devRef .tc main_v129) = result m c :=
  (Pipeline.withArrays_arr spec0 winFacts0.arr_inj c (V0 m c) (fun w => (dats m 0 c).arrAt w cfg0.N) 1).trans (final_at m c)

/-- The region leaves the numbers as it found them. -/
theorem exit_numbers : exit m c (Proc.devRef .tc main_v128) = V0 m c (Proc.devRef .tc main_v128) :=
  (Pipeline.withArrays_arr spec0 winFacts0.arr_inj c (V0 m c) (fun w => (dats m 0 c).arrAt w cfg0.N) 0).trans
    (((dats m 0 c).arrAt_in 0 rfl _).trans (A_eq m c 0))

/-- The region leaves the attributes as they were. -/
theorem exit_attrs : exit m c (Proc.devRef .tc main_arg2) = attrs m c :=
  (Pipeline.withArrays_of_ne spec0 c (V0 m c) (fun w => (dats m 0 c).arrAt w cfg0.N) main_arg2 (by decide)).trans (V_main_arg2 m c)

/-- The kernel's result at one entry is the reference's. -/
theorem image_at [Cert.Pre_xy_finite.Facts] (hp : Cert.Pre_xy_finite.fn (F := Ideal) (verts m c) (faces m c) (attrs m c) = fun _ => 1#1)
    (b : Fin 2) (ch : Fin 4) (y x : Fin 128) :
    (StableHlo.after tailOps (exit m c) (Proc.devRef .tc main_v208) : S2x4x128x128.Idx → EReal) (ix4 b ch y x)
      = Cert.ReferenceIdeal.Read.val_main_v211 (F := Ideal) (verts m c) (faces m c) (attrs m c) (ix4 b ch y x) := by
  classical
  have ht : ∀ f, Finite (tri m c b f) := Cert.ReferenceIdeal.Raster.tri_real (verts m c) (faces m c) (attrs m c) hp b
  obtain ⟨j, hj, e⟩ := Cert.ReferenceIdeal.Raster.pick_at (verts m c) (faces m c) b (Cert.ReferenceIdeal.Raster.pix y x)
  have hoff : Cert.ReferenceIdeal.Raster.offers (verts m c) (faces m c) b (Cert.ReferenceIdeal.Raster.pix y x)
      = fun f => offer (tri m c b f) (num x.val) (num y.val) := by
    have ex : num ((Cert.ReferenceIdeal.Raster.pix y x).val % 128) = num x.val := congrArg num (by dsimp only [Cert.ReferenceIdeal.Raster.pix]; omega)
    have ey : num ((Cert.ReferenceIdeal.Raster.pix y x).val / 128) = num y.val := congrArg num (by dsimp only [Cert.ReferenceIdeal.Raster.pix]; omega)
    unfold Cert.ReferenceIdeal.Raster.offers
    rw [ex, ey]
  have hf : (exit m c (Proc.devRef .tc main_v129) : S2x128x128.Idx → BitVec 32) (ix3 b y x)
      = if offer (tri m c b j) (num x.val) (num y.val) < far then BitVec.ofNat 32 j.val else 4294967295#32 := by
    rw [exit_found]
    exact found_eq (col m c b) x.val y.val (tri m c b) ht (col_face m c b) (col_pad m c b) j (hoff ▸ hj)
  by_cases h : offer (tri m c b j) (num x.val) (num y.val) < far
  · rw [if_pos h] at hf
    have hn : ∀ k, (exit m c (Proc.devRef .tc main_v128) : S2x9x4096.Idx → EReal) (ix3 b k (j.castLE (by decide))) = coef (tri m c b j) k := fun k => by
      rw [exit_numbers]
      exact (numbers_at m c b k _).trans (dif_pos j.isLt)
    refine (tail_hit (exit m c) b ch y x j hf _ hn (fun v a => attrs m c (ix4 b j v a)) (fun v a => congrFun (exit_attrs m c) _)).trans ?_
    rw [kw0_eq _ (ht j), kw1_eq _ (ht j), kw2_eq _ (ht j)]
    exact (Cert.ReferenceIdeal.Raster.hit_at (verts m c) (faces m c) b y x j e (attrs m c) ch (by rw [hoff]; exact h)).symm
  · rw [if_neg h] at hf
    refine (tail_miss (exit m c) b ch y x hf).trans ?_
    exact (Cert.ReferenceIdeal.Raster.miss_at (verts m c) (faces m c) b y x j e (attrs m c) ch (by rw [hoff]; exact h)).symm

/-- The kernel's result is the reference's. -/
theorem image_eq [Cert.Pre_xy_finite.Facts] (hp : Cert.Pre_xy_finite.fn (F := Ideal) (verts m c) (faces m c) (attrs m c) = fun _ => 1#1) :
    Pipeline.afterTail₀ cfgs (dats m) 0 (V0 m) [hostOps1, hostOps1_1, hostOps1_2, hostOps1_3, hostOps1_4] c main_v208
      = Cert.ReferenceIdeal.Read.val_main_v211 (F := Ideal) (verts m c) (faces m c) (attrs m c) := by
  have e : (List.flatten [hostOps1, hostOps1_1, hostOps1_2, hostOps1_3, hostOps1_4] : List (HloOp τ sig (Elt Ideal))) = tailOps := by
    unfold tailOps
    simp only [List.flatten_cons, List.flatten_nil, List.append_nil]
  unfold Pipeline.afterTail₀
  rw [e]
  funext i
  have hi : i = ix4 (i 0) (i 1) (i 2) (i 3) := by
    funext d
    match d with
    | ⟨0, _⟩ => rfl
    | ⟨1, _⟩ => rfl
    | ⟨2, _⟩ => rfl
    | ⟨3, _⟩ => rfl
  rw [hi]
  exact image_at m c hp (i 0) (i 1) (i 2) (i 3)

end Cert.KernelIdeal.Raster
end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Raster.Image
public import Idealize.ShloMosaic.Adequacy
public import Idealize.ShloMosaic.Init

@[expose] public section

noncomputable section

namespace Cert.Proof

open Idealize.ShloMosaic Idealize.SL.Sem

/-- The shapes the precondition names fit. -/
theorem pre_facts : Cert.Pre_xy_finite.Facts := ⟨by decide, by decide⟩

/-- The reference runs, leaves its arguments as they were, and ends with no signal standing. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The image of the kernel's idealization is the reference's. -/
theorem image [Cert.Pre_xy_finite.Facts] : Cert.algebraic_KernelIdeal_ReferenceIdeal_pre_xy_finite := by
  intro m ρ m' ρ' hp hagree
  refine ⟨fun c => Cert.ReferenceIdeal.Read.val_main_v211 (F := Ideal) (Cert.KernelIdeal.Raster.verts m c) (Cert.KernelIdeal.Raster.faces m c)
    (Cert.KernelIdeal.Raster.attrs m c), ?_, ?_⟩
  · exact (θ_run Cert.KernelIdeal.defs _ _).mono (fun r h c =>
        ⟨((h.1 c).2 Cert.KernelIdeal.main_v208 (Pipeline.mem_restRefs_of Cert.KernelIdeal.main_v208 (by decide) (by decide))).trans
          (Cert.KernelIdeal.Raster.image_eq m c (hp c)), h.2 c⟩)
      (θ_run_and (Cert.KernelIdeal.Gen.run_main m ρ) (Cert.KernelIdeal.Gen.unchanged m ρ))
  · refine (θ_run Cert.ReferenceIdeal.defs _ _).mono (fun r h c => ⟨((h c).1.trans (Cert.ReferenceIdeal.Read.val_main_v211_eq _)).trans ?_, (h c).2⟩)
      (Cert.ReferenceIdeal.Value.run (F := Ideal) m' ρ')
    obtain ⟨e0, e1, e2⟩ := hagree c
    show Cert.ReferenceIdeal.Read.val_main_v211 (F := Ideal) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) = _
    rw [e0, e1, e2]

/-- Everything the certificate claims. -/
theorem claim : Cert.Claim :=
  letI := pre_facts
  ⟨Cert.Kernel.Gen.facts, Cert.KernelIdeal.Gen.facts, Cert.ReferenceIdeal.Gen.facts, pre_facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial, trivial, image⟩

end Cert.Proof

end
